-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_flow_in_unit_interval [hPre_flow_in_unit_interval : Cert.Pre_flow_in_unit_interval.Facts] (m : (ℓ : Loc Cert.KernelIdeal.nD Cert.KernelIdeal.τ Cert.KernelIdeal.sig) → Buf (Elt Ideal) ℓ) : Prop :=
  ∀ c : Dev Cert.KernelIdeal.nD,
    (Cert.Pre_flow_in_unit_interval.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_flow_in_unit_interval [hPre_flow_in_unit_interval : Cert.Pre_flow_in_unit_interval.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_flow_in_unit_interval.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_flow_in_unit_interval [hKernelIdeal : Cert.KernelIdeal.Facts] [hPre_flow_in_unit_interval : Cert.Pre_flow_in_unit_interval.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_flow_in_unit_interval m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_flow_in_unit_interval [hReferenceIdeal : Cert.ReferenceIdeal.Facts] [hPre_flow_in_unit_interval : Cert.Pre_flow_in_unit_interval.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_flow_in_unit_interval m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_flow_in_unit_interval [hKernelIdeal : Cert.KernelIdeal.Facts] [hReferenceIdeal : Cert.ReferenceIdeal.Facts] [hPre_flow_in_unit_interval : Cert.Pre_flow_in_unit_interval.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_flow_in_unit_interval m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_flow_in_unit_interval : Cert.Pre_flow_in_unit_interval.Facts),
    quiescent_Kernel (hKernel := hKernel)
    ∧ quiescent_KernelIdeal (hKernelIdeal := hKernelIdeal)
    ∧ quiescent_KernelIdeal_pre_flow_in_unit_interval (hKernelIdeal := hKernelIdeal) (hPre_flow_in_unit_interval := hPre_flow_in_unit_interval)
    ∧ quiescent_ReferenceIdeal (hReferenceIdeal := hReferenceIdeal)
    ∧ quiescent_ReferenceIdeal_pre_flow_in_unit_interval (hReferenceIdeal := hReferenceIdeal) (hPre_flow_in_unit_interval := hPre_flow_in_unit_interval)
    ∧ preserves_Kernel_KernelIdeal
    ∧ algebraic_KernelIdeal_ReferenceIdeal_pre_flow_in_unit_interval (hKernelIdeal := hKernelIdeal) (hReferenceIdeal := hReferenceIdeal) (hPre_flow_in_unit_interval := hPre_flow_in_unit_interval)
-- ==== Pre_flow_in_unit_interval.lean ====
abbrev S1x1x294912x192 : Shape := ⟨4, ![1, 1, 294912, 192]⟩
abbrev S1x384x768x1 : Shape := ⟨4, ![1, 384, 768, 1]⟩
abbrev S_ : Shape := ⟨0, ![]⟩

class Facts : Prop where
  bcast_S_S1x384x768x1 : S_.BroadcastsInDim S1x384x768x1 (![] : Fin 0 → Fin S1x384x768x1.rank)

variable [Facts]

def fn {F : FTy → Type} [FloatOps F] (main_arg0 : FVec F S1x1x294912x192 .f32) (main_arg1 : FVec F S1x384x768x1 .f32) : IVec S1x384x768x1 1 :=
  let main_cst : FVec F S_ .f32 := constant S_ .f32 0x00000000#32
  let main_v0 : FVec F S1x384x768x1 .f32 := broadcastInDim S1x384x768x1 ![] bcast_S_S1x384x768x1 main_cst
  let main_v1 : IVec S1x384x768x1 1 := cmpf .oge main_arg1 main_v0
  let main_cst_0 : FVec F S_ .f32 := constant S_ .f32 0x3F800000#32
  let main_v2 : FVec F S1x384x768x1 .f32 := broadcastInDim S1x384x768x1 ![] bcast_S_S1x384x768x1 main_cst_0
  let main_v3 : IVec S1x384x768x1 1 := cmpf .olt main_arg1 main_v2
  let main_v4 : IVec S1x384x768x1 1 := andi main_v1 main_v3
  main_v4
-- ==== Kernel.lean ====
abbrev S1x1x294912x192 : Shape := ⟨4, ![1, 1, 294912, 192]⟩
abbrev S1x384x768x1 : Shape := ⟨4, ![1, 384, 768, 1]⟩
abbrev S294912x192 : Shape := ⟨2, ![294912, 192]⟩
abbrev S384x768 : Shape := ⟨2, ![384, 768]⟩
abbrev S147456x6 : Shape := ⟨2, ![147456, 6]⟩
abbrev S6x147456 : Shape := ⟨2, ![6, 147456]⟩
abbrev S6x192x768 : Shape := ⟨3, ![6, 192, 768]⟩
abbrev S9x384x768 : Shape := ⟨3, ![9, 384, 768]⟩
abbrev S6x96x768 : Shape := ⟨3, ![6, 96, 768]⟩
abbrev S96x768 : Shape := ⟨2, ![96, 768]⟩
abbrev S9x96x768 : Shape := ⟨3, ![9, 96, 768]⟩
abbrev S1x96x768 : Shape := ⟨3, ![1, 96, 768]⟩
abbrev S1x9x384x768 : Shape := ⟨4, ![1, 9, 384, 768]⟩

abbrev nBuf : Space → Nat
  | .hbm => 13
  | .vmem => 12
  | .smem => 0
  | _ => 0

abbrev bufTy : (tb : Table) → Fin (tcTables nBuf tb) → BufTy
  | .hbm, ⟨0, _⟩ => ⟨S1x1x294912x192, .f32⟩
  | .hbm, ⟨1, _⟩ => ⟨S1x384x768x1, .f32⟩
  | .hbm, ⟨2, _⟩ => ⟨S294912x192, .f32⟩
  | .hbm, ⟨3, _⟩ => ⟨S384x768, .f32⟩
  | .hbm, ⟨4, _⟩ => ⟨S147456x6, .f32⟩
  | .hbm, ⟨5, _⟩ => ⟨S6x147456, .f32⟩
  | .hbm, ⟨6, _⟩ => ⟨S6x192x768, .f32⟩
  | .hbm, ⟨7, _⟩ => ⟨S9x384x768, .f32⟩
  | .hbm, ⟨8, _⟩ => ⟨S147456x6, .f32⟩
  | .hbm, ⟨9, _⟩ => ⟨S6x147456, .f32⟩
  | .hbm, ⟨10, _⟩ => ⟨S6x192x768, .f32⟩
  | .hbm, ⟨11, _⟩ => ⟨S9x384x768, .f32⟩
  | .hbm, ⟨12, _⟩ => ⟨S1x9x384x768, .f32⟩
  | .local _ .vmem, ⟨0, _⟩ => ⟨S6x96x768, .f32⟩
  | .local _ .vmem, ⟨1, _⟩ => ⟨S6x96x768, .f32⟩
  | .local _ .vmem, ⟨2, _⟩ => ⟨S96x768, .f32⟩
  | .local _ .vmem, ⟨3, _⟩ => ⟨S96x768, .f32⟩
  | .local _ .vmem, ⟨4, _⟩ => ⟨S9x96x768, .f32⟩
  | .local _ .vmem, ⟨5, _⟩ => ⟨S9x96x768, .f32⟩
  | .local _ .vmem, ⟨6, _⟩ => ⟨S6x96x768, .f32⟩
  | .local _ .vmem, ⟨7, _⟩ => ⟨S6x96x768, .f32⟩
  | .local _ .vmem, ⟨8, _⟩ => ⟨S96x768, .f32⟩
  | .local _ .vmem, ⟨9, _⟩ => ⟨S96x768, .f32⟩
  | .local _ .vmem, ⟨10, _⟩ => ⟨S9x96x768, .f32⟩
  | .local _ .vmem, ⟨11, _⟩ => ⟨S9x96x768, .f32⟩
  | _, _ => ⟨S1x1x294912x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

abbrev stage0_0 : Fin 2 → Memref sig .tc .vmem S6x96x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9x96x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_3 (i : grid1.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, v0.toNat, c0_i32_0.toNat]

abbrev stage1_0 : Fin 2 → Memref sig .tc .vmem S6x96x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S96x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S9x96x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S1x1x294912x192 : Shape := ⟨4, ![1, 1, 294912, 192]⟩
abbrev S1x384x768x1 : Shape := ⟨4, ![1, 384, 768, 1]⟩
abbrev S_ : Shape := ⟨0, ![]⟩
abbrev S8 : Shape := ⟨1, ![8]⟩
abbrev S1 : Shape := ⟨1, ![1]⟩
abbrev S9 : Shape := ⟨1, ![9]⟩
abbrev S1x1x1x9 : Shape := ⟨4, ![1, 1, 1, 9]⟩
abbrev S1x384x768x9 : Shape := ⟨4, ![1, 384, 768, 9]⟩
abbrev S294912x9 : Shape := ⟨2, ![294912, 9]⟩
abbrev S294912x192 : Shape := ⟨2, ![294912, 192]⟩
abbrev S294912x9x1 : Shape := ⟨3, ![294912, 9, 1]⟩
abbrev S1x1x1 : Shape := ⟨3, ![1, 1, 1]⟩
abbrev S1x9x384x768 : Shape := ⟨4, ![1, 9, 384, 768]⟩

abbrev nBuf : Space → Nat
  | .hbm => 145
  | .vmem => 0
  | .smem => 0
  | _ => 0

abbrev hbmTy0_0 (i : Nat) : BufTy := match i % 128 with
  | 0 => ⟨S1x1x294912x192, .f32⟩
  | 1 => ⟨S1x384x768x1, .f32⟩
  | 2 => ⟨S_, .i32⟩
  | 3 => ⟨S_, .i32⟩
  | 4 => ⟨S_, .f32⟩
  | 5 => ⟨S_, .f32⟩
  | 6 => ⟨S_, .f32⟩
  | 7 => ⟨S_, .f32⟩
  | 8 => ⟨S_, .f32⟩
  | 9 => ⟨S8, .f32⟩
  | 10 => ⟨S_, .f32⟩
  | 11 => ⟨S8, .f32⟩
  | 12 => ⟨S8, .f32⟩
  | 13 => ⟨S1, .f32⟩
  | 14 => ⟨S_, .f32⟩
  | 15 => ⟨S8, .f32⟩
  | 16 => ⟨S8, .f32⟩
  | 17 => ⟨S8, .f32⟩
  | 18 => ⟨S8, .f32⟩
  | 19 => ⟨S1, .f32⟩
  | 20 => ⟨S8, .f32⟩
  | 21 => ⟨S8, .f32⟩
  | 22 => ⟨S8, .f32⟩
  | 23 => ⟨S1, .f32⟩
  | 24 => ⟨S9, .f32⟩
  | 25 => ⟨S1x1x1x9, .f32⟩
  | 26 => ⟨S1x384x768x9, .f32⟩
  | 27 => ⟨S1x384x768x9, .f32⟩
  | 28 => ⟨S1x384x768x9, .f32⟩
  | 29 => ⟨S294912x9, .f32⟩
  | 30 => ⟨S_, .f32⟩
  | 31 => ⟨S294912x9, .f32⟩
  | 32 => ⟨S294912x9, .f32⟩
  | 33 => ⟨S_, .f32⟩
  | 34 => ⟨S294912x9, .f32⟩
  | 35 => ⟨S294912x9, .f32⟩
  | 36 => ⟨S_, .f32⟩
  | 37 => ⟨S294912x9, .f32⟩
  | 38 => ⟨S294912x9, .f32⟩
  | 39 => ⟨S_, .f32⟩
  | 40 => ⟨S294912x9, .f32⟩
  | 41 => ⟨S294912x9, .f32⟩
  | 42 => ⟨S_, .f32⟩
  | 43 => ⟨S294912x9, .f32⟩
  | 44 => ⟨S294912x9, .f32⟩
  | 45 => ⟨S_, .f32⟩
  | 46 => ⟨S294912x9, .f32⟩
  | 47 => ⟨S294912x9, .f32⟩
  | 48 => ⟨S294912x9, .f32⟩
  | 49 => ⟨S294912x9, .f32⟩
  | 50 => ⟨S_, .f32⟩
  | 51 => ⟨S294912x9, .f32⟩
  | 52 => ⟨S294912x9, .f32⟩
  | 53 => ⟨S294912x9, .i32⟩
  | 54 => ⟨S_, .i32⟩
  | 55 => ⟨S294912x9, .i32⟩
  | 56 => ⟨S294912x9, .i32⟩
  | 57 => ⟨S294912x192, .f32⟩
  | 58 => ⟨S_, .i32⟩
  | 59 => ⟨S294912x9, .i32⟩
  | 60 => ⟨S294912x9, .i1⟩
  | 61 => ⟨S_, .i32⟩
  | 62 => ⟨S294912x9, .i32⟩
  | 63 => ⟨S294912x9, .i1⟩
  | 64 => ⟨S294912x9, .i1⟩
  | 65 => ⟨S_, .i32⟩
  | 66 => ⟨S_, .i32⟩
  | 67 => ⟨S_, .i32⟩
  | 68 => ⟨S294912x9, .i32⟩
  | 69 => ⟨S294912x9, .i32⟩
  | 70 => ⟨S_, .i32⟩
  | 71 => ⟨S294912x9, .i32⟩
  | 72 => ⟨S294912x9, .i32⟩
  | 73 => ⟨S_, .i32⟩
  | 74 => ⟨S294912x9, .i32⟩
  | 75 => ⟨S294912x9, .i1⟩
  | 76 => ⟨S_, .i32⟩
  | 77 => ⟨S294912x9, .i32⟩
  | 78 => ⟨S294912x9, .i32⟩
  | 79 => ⟨S294912x9, .i32⟩
  | 80 => ⟨S294912x9x1, .i32⟩
  | 81 => ⟨S1, .i32⟩
  | 82 => ⟨S_, .i32⟩
  | 83 => ⟨S294912x9x1, .i32⟩
  | 84 => ⟨S294912x9x1, .i1⟩
  | 85 => ⟨S1x1x1, .i32⟩
  | 86 => ⟨S294912x9x1, .i32⟩
  | 87 => ⟨S294912x9x1, .i1⟩
  | 88 => ⟨S294912x9x1, .i1⟩
  | 89 => ⟨S_, .i1⟩
  | 90 => ⟨S294912x9, .i1⟩
  | 91 => ⟨S294912x9, .f32⟩
  | 92 => ⟨S_, .f32⟩
  | 93 => ⟨S294912x9, .f32⟩
  | 94 => ⟨S294912x9, .f32⟩
  | 95 => ⟨S_, .f32⟩
  | 96 => ⟨S_, .f32⟩
  | 97 => ⟨S294912x9, .f32⟩
  | 98 => ⟨S294912x9, .f32⟩
  | 99 => ⟨S294912x9, .f32⟩
  | 100 => ⟨S_, .i32⟩
  | 101 => ⟨S294912x9, .i32⟩
  | 102 => ⟨S294912x9, .i1⟩
  | 103 => ⟨S_, .i32⟩
  | 104 => ⟨S294912x9, .i32⟩
  | 105 => ⟨S294912x9, .i1⟩
  | 106 => ⟨S294912x9, .i1⟩
  | 107 => ⟨S_, .i32⟩
  | 108 => ⟨S_, .i32⟩
  | 109 => ⟨S_, .i32⟩
  | 110 => ⟨S294912x9, .i32⟩
  | 111 => ⟨S294912x9, .i32⟩
  | 112 => ⟨S_, .i32⟩
  | 113 => ⟨S294912x9, .i32⟩
  | 114 => ⟨S294912x9, .i32⟩
  | 115 => ⟨S_, .i32⟩
  | 116 => ⟨S294912x9, .i32⟩
  | 117 => ⟨S294912x9, .i1⟩
  | 118 => ⟨S_, .i32⟩
  | 119 => ⟨S294912x9, .i32⟩
  | 120 => ⟨S294912x9, .i32⟩
  | 121 => ⟨S294912x9, .i32⟩
  | 122 => ⟨S294912x9x1, .i32⟩
  | 123 => ⟨S1, .i32⟩
  | 124 => ⟨S_, .i32⟩
  | 125 => ⟨S294912x9x1, .i32⟩
  | 126 => ⟨S294912x9x1, .i1⟩
  | 127 => ⟨S1x1x1, .i32⟩
  | _ => ⟨S1x1x294912x192, .f32⟩

abbrev hbmTy0_1 (i : Nat) : BufTy := match i % 128 with
  | 0 => ⟨S294912x9x1, .i32⟩
  | 1 => ⟨S294912x9x1, .i1⟩
  | 2 => ⟨S294912x9x1, .i1⟩
  | 3 => ⟨S_, .i1⟩
  | 4 => ⟨S294912x9, .i1⟩
  | 5 => ⟨S294912x9, .f32⟩
  | 6 => ⟨S_, .f32⟩
  | 7 => ⟨S294912x9, .f32⟩
  | 8 => ⟨S294912x9, .f32⟩
  | 9 => ⟨S_, .f32⟩
  | 10 => ⟨S_, .f32⟩
  | 11 => ⟨S294912x9, .f32⟩
  | 12 => ⟨S294912x9, .f32⟩
  | 13 => ⟨S294912x9, .f32⟩
  | 14 => ⟨S294912x9, .f32⟩
  | 15 => ⟨S1x384x768x9, .f32⟩
  | 16 => ⟨S1x9x384x768, .f32⟩
  | _ => ⟨S1x1x294912x192, .f32⟩

abbrev hbmTy (i : Nat) : BufTy := match i / 128 with
  | 0 => hbmTy0_0 i
  | 1 => hbmTy0_1 i
  | _ => ⟨S1x1x294912x192, .f32⟩

abbrev bufTy : (tb : Table) → Fin (tcTables nBuf tb) → BufTy
  | .hbm, ⟨i, _⟩ => hbmTy i
  | _, _ => ⟨S1x1x294912x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_v11 : Ref sig .tc := ⟨.hbm, 38, rfl⟩
abbrev main_cst_3 : Ref sig .tc := ⟨.hbm, 39, rfl⟩
abbrev main_v12 : Ref sig .tc := ⟨.hbm, 40, rfl⟩
abbrev main_v13 : Ref sig .tc := ⟨.hbm, 41, rfl⟩
abbrev main_cst_4 : Ref sig .tc := ⟨.hbm, 42, rfl⟩
abbrev main_v14 : Ref sig .tc := ⟨.hbm, 43, rfl⟩
abbrev main_v15 : Ref sig .tc := ⟨.hbm, 44, rfl⟩
abbrev main_cst_5 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_6 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_7 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_8 : Ref sig .tc := ⟨.hbm, 58, rfl⟩
abbrev main_v26 : Ref sig .tc := ⟨.hbm, 59, rfl⟩
abbrev main_v27 : Ref sig .tc := ⟨.hbm, 60, rfl⟩
abbrev main_c_9 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_10 : Ref sig .tc := ⟨.hbm, 65, rfl⟩
abbrev main_c_11 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v31 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_cst : Ref sig .tc := ⟨.hbm, 92, rfl⟩
abbrev main_call2_v14 : Ref sig .tc := ⟨.hbm, 93, rfl⟩
abbrev main_v32 : Ref sig .tc := ⟨.hbm, 94, rfl⟩
abbrev main_cst_12 : Ref sig .tc := ⟨.hbm, 95, rfl⟩
abbrev main_call3_v0 : Ref sig .tc := ⟨.hbm, 96, rfl⟩
abbrev main_call3_v1 : Ref sig .tc := ⟨.hbm, 97, rfl⟩
abbrev main_v33 : Ref sig .tc := ⟨.hbm, 98, rfl⟩
abbrev main_v34 : Ref sig .tc := ⟨.hbm, 99, rfl⟩
abbrev main_c_13 : Ref sig .tc := ⟨.hbm, 100, rfl⟩
abbrev main_v35 : Ref sig .tc := ⟨.hbm, 101, rfl⟩
abbrev main_v36 : Ref sig .tc := ⟨.hbm, 102, rfl⟩
abbrev main_c_14 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_c_15 : Ref sig .tc := ⟨.hbm, 107, rfl⟩
abbrev main_c_16 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_v40 : Ref sig .tc := ⟨.hbm, 114, rfl⟩
abbrev main_call5_c : Ref sig .tc := ⟨.hbm, 115, rfl⟩
abbrev main_call5_v0 : Ref sig .tc := ⟨.hbm, 116, rfl⟩
abbrev main_call5_v1 : Ref sig .tc := ⟨.hbm, 117, rfl⟩
abbrev main_call5_c_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_v5 : Ref sig .tc := ⟨.hbm, 122, rfl⟩
abbrev main_call5_c_1 : Ref sig .tc := ⟨.hbm, 123, rfl⟩
abbrev main_call5_c_2 : Ref sig .tc := ⟨.hbm, 124, rfl⟩
abbrev main_call5_v6 : Ref sig .tc := ⟨.hbm, 125, rfl⟩
abbrev main_call5_v7 : Ref sig .tc := ⟨.hbm, 126, rfl⟩
abbrev main_call5_v8 : Ref sig .tc := ⟨.hbm, 127, rfl⟩
abbrev main_call5_v9 : Ref sig .tc := ⟨.hbm, 128, rfl⟩
abbrev main_call5_v10 : Ref sig .tc := ⟨.hbm, 129, rfl⟩
abbrev main_call5_v11 : Ref sig .tc := ⟨.hbm, 130, rfl⟩
abbrev main_call5_c_3 : Ref sig .tc := ⟨.hbm, 131, rfl⟩
abbrev main_call5_v12 : Ref sig .tc := ⟨.hbm, 132, rfl⟩
abbrev main_call5_v13 : Ref sig .tc := ⟨.hbm, 133, rfl⟩
abbrev main_call5_cst : Ref sig .tc := ⟨.hbm, 134, rfl⟩
abbrev main_call5_v14 : Ref sig .tc := ⟨.hbm, 135, rfl⟩
abbrev main_v41 : Ref sig .tc := ⟨.hbm, 136, rfl⟩
abbrev main_cst_17 : Ref sig .tc := ⟨.hbm, 137, rfl⟩
abbrev main_call6_v0 : Ref sig .tc := ⟨.hbm, 138, rfl⟩
abbrev main_call6_v1 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩

abbrev nD : Nat := 1
abbrev τ : Topo := Topo.v7x

variable {F : FTy → Type} [FloatOps F]
-- ==== Proof.KRun.lean ====
/- The run of the kernel's program: it ends with the result array at what the fold over its five items leaves there, and
   with both arguments as they were. -/
module

public import proofs.«01_k».proof.Proof.Gen.KernelIdeal.Frame

@[expose] public section

set_option maxRecDepth 16384

noncomputable section

namespace Cert.KernelIdeal.Taps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions the launch is stated in. -/
local notation "𝕄" => MT nD τ sig Unit (Elt F) ℕ (UR sig nD τ) ℕ

variable (m : (ℓ : Loc nD τ sig) → Buf (Elt F) ℓ) (ρ : Dev nD → PrngReg)

-- the launch's implicit arguments are found by unfolding plain definitions
set_option backward.isDefEq.respectTransparency.types false in
/-- Every run ends with the result array at the fold's last value for it and with the arguments unchanged. -/
theorem run : θ_run defs (onTc (τ := τ) (main (F := F))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v10 (by decide)),
       (h c _ (mem_uc main_arg0 (by decide))).trans (W5_main_arg0 m ρ c),
       (h c _ (mem_uc main_arg1 (by decide))).trans (W5_main_arg1 m ρ c)⟩)

end Cert.KernelIdeal.Taps

end
-- ==== Proof.Block.lean ====
/- What one block of the output holds: each of the nine taps is a function of the flow at its own position and of
   the six volume columns at that position. `tapAt k` is that function, and both kernel bodies leave it. -/
module

public import proofs.«01_k».proof.Proof.Gen.KernelIdeal.Frame
public import Idealize.ShloMosaic.Lib.ValueIdx
public import Idealize.ShloMosaic.Lib.Pipeline.Value
public import Idealize.ShloMosaic.PureOps.Ideal

@[expose] public section

set_option maxRecDepth 16384

noncomputable section

namespace Cert.KernelIdeal.Taps

open Cert.KernelIdeal Cert.KernelIdeal.Gen Idealize.ShloMosaic Idealize.ShloMosaic.TcCoe Idealize.SL.Sem
open Idealize.ShloMosaic.ValueIdx

/-- An extended real as the kernel's 32-bit float operations take it. -/
local notation "R32" => Ideal FTy.f32

/-- The constant a bit pattern stands for. -/
abbrev lit (b : BitVec 32) : R32 := FloatOps.ofBits .f32 b

/-- The sampling position of a tap whose offset has the pattern `c`, at flow `f`. -/
def place (c : BitVec 32) (f : R32) : R32 :=
  FloatOps.mulf (FloatOps.mulf (FloatOps.addf (FloatOps.subf (FloatOps.divf (FloatOps.mulf (lit 0x40000000#32)
    (FloatOps.addf f (lit c))) (lit 0x43400000#32)) (lit 0x3F800000#32)) (lit 0x3F800000#32)) (lit 0x3F000000#32))
    (lit 0x433F0000#32)

/-- The whole part of a position. -/
def whole (x : R32) : R32 := FloatOps.floor x
/-- The upper weight of a position. -/
def upper (x : R32) : R32 := FloatOps.subf x (whole x)
/-- The lower weight of a position. -/
def lower (x : R32) : R32 := FloatOps.subf (lit 0x3F800000#32) (upper x)
/-- Whether a position's whole part is the value of the pattern `a`. -/
def here (a : BitVec 32) (x : R32) : BitVec 1 := FloatOps.cmpf .oeq (whole x) (lit a)

/-- The share of the lowest of the three columns. -/
def share0 (a : BitVec 32) (x p : R32) : R32 :=
  FloatOps.mulf (Scalar.select (here a x) (lower x) (lit 0x00000000#32)) p
/-- The share of the middle one of the three columns. -/
def share1 (a : BitVec 32) (x p : R32) : R32 := FloatOps.mulf (Scalar.select (here a x) (upper x) (lower x)) p
/-- The share of the highest of the three columns. -/
def share2 (a : BitVec 32) (x p : R32) : R32 :=
  FloatOps.mulf (Scalar.select (here a x) (lit 0x00000000#32) (upper x)) p

/-- The running sum's start. -/
abbrev nil : R32 := lit 0x00000000#32

/-- A tap all of whose three columns are in the volume. -/
def tap3 (c a : BitVec 32) (f p q r : R32) : R32 :=
  FloatOps.addf (FloatOps.addf (FloatOps.addf nil (share0 a (place c f) p)) (share1 a (place c f) q))
    (share2 a (place c f) r)

/-- The nine taps: the value of tap `k` from the flow and the six columns. -/
def tapAt (k : Nat) (f : R32) (v : Fin 6 → R32) : R32 :=
  match k with
  | 0 => nil
  | 1 => nil
  | 2 => FloatOps.addf nil (share2 0xC0000000#32 (place 0xC0000000#32 f) (v 0))
  | 3 => FloatOps.addf (FloatOps.addf nil (share1 0xBF800000#32 (place 0xBF800000#32 f) (v 0)))
      (share2 0xBF800000#32 (place 0xBF800000#32 f) (v 1))
  | 4 => FloatOps.addf (FloatOps.addf nil (FloatOps.mulf (lower (place 0x00000000#32 f)) (v 0)))
      (FloatOps.mulf (upper (place 0x00000000#32 f)) (v 1))
  | 5 => tap3 0x3F800000#32 0x00000000#32 f (v 0) (v 1) (v 2)
  | 6 => tap3 0x40000000#32 0x3F800000#32 f (v 1) (v 2) (v 3)
  | 7 => tap3 0x40400000#32 0x40000000#32 f (v 2) (v 3) (v 4)
  | _ => tap3 0x40800000#32 0x40400000#32 f (v 3) (v 4) (v 5)

/-- The block that a flow block and a six-column volume block give. -/
def tapBlock (x0 : Vec Ideal S6x96x768 .f32) (x1 : Vec Ideal S96x768 .f32) : Vec Ideal S9x96x768 .f32 :=
  fun y => tapAt (y 0).val (x1 (ix2 (y 1) (y 2))) fun j => x0 (ix3 j (y 1) (y 2))

/-- The position of a one-plane block inside its plane. -/
abbrev inPlane (x : S1x96x768.Idx) : S96x768.Idx := ix2 (x 1) (x 2)

/-- A plane stored as a one-plane block is read at the position in the plane. -/
theorem stored_apply (u : FVec Ideal S96x768 .f32) (x : S1x96x768.Idx) :
    shapeCast S1x96x768 u shapeCasts_S96x768_S1x96x768 x = u (inPlane x) :=
  shapeCast_apply u shapeCasts_S96x768_S1x96x768 x (inPlane x)
    (by
      rewrite [Shape.rowMajor_val_two, Shape.rowMajor_val_three]
      have h0 : (x 0).val < 1 := (x 0).isLt
      show (x 1).val * 768 + (x 2).val = ((x 0).val * 96 + (x 1).val) * 768 + (x 2).val
      omega)

/-- A one-plane block read as a plane. -/
theorem plane_apply (u : Vec Ideal S1x96x768 .f32) (i : S96x768.Idx) :
    shapeCast S96x768 u shapeCasts_S1x96x768_S96x768 i = u (ix3 0 (i 0) (i 1)) :=
  shapeCast_apply u shapeCasts_S1x96x768_S96x768 i (ix3 0 (i 0) (i 1))
    (by
      rewrite [Shape.rowMajor_val_two, Shape.rowMajor_val_three]
      show (0 * 96 + (i 0).val) * 768 + (i 1).val = (i 0).val * 768 + (i 1).val
      omega)

/-- A load of the whole flow block reads the block. -/
theorem flow_load (x1 : Vec Ideal S96x768 .f32) : View.ld x1 r0_0 = x1 := by
  funext i
  refine congrArg x1 (funext fun a => Fin.ext ?_)
  match a with
  | ⟨0, _⟩ => show 0 + 1 * (i 0).val = (i 0).val; omega
  | ⟨1, _⟩ => show 0 + 1 * (i 1).val = (i 1).val; omega

/-- The flow block as the body names it. -/
theorem flow_apply (x0 : Vec Ideal S6x96x768 .f32) (x1 : Vec Ideal S96x768 .f32) : k0_pay33 x0 x1 = x1 := by
  unfold k0_pay33 k0_pay2
  exact (shapeCast_self _ _).trans (flow_load x1)

/-- Column `j` of the volume block, loaded as a plane. -/
theorem column_apply (x0 : Vec Ideal S6x96x768 .f32) (j : Fin 6) (inb) (i : S96x768.Idx) :
    shapeCast S96x768 (View.ld x0 (Rect.unit (s := S6x96x768) ![j.val, 0, 0] S1x96x768.size inb))
      shapeCasts_S1x96x768_S96x768 i = x0 (ix3 j (i 0) (i 1)) := by
  refine (plane_apply _ i).trans (congrArg x0 (funext fun a => Fin.ext ?_))
  match a with
  | ⟨0, _⟩ => show j.val + 1 * 0 = j.val; omega
  | ⟨1, _⟩ => show 0 + 1 * (i 0).val = (i 0).val; omega
  | ⟨2, _⟩ => show 0 + 1 * (i 1).val = (i 1).val; omega

theorem col0 (x0 : Vec Ideal S6x96x768 .f32) (x1 : Vec Ideal S96x768 .f32) (i : S96x768.Idx) :
    k0_pay35 x0 x1 i = x0 (ix3 0 (i 0) (i 1)) := column_apply x0 0 _ i
theorem col1 (x0 : Vec Ideal S6x96x768 .f32) (x1 : Vec Ideal S96x768 .f32) (i : S96x768.Idx) :
    k0_pay36 x0 x1 i = x0 (ix3 1 (i 0) (i 1)) := column_apply x0 1 _ i
theorem col2 (x0 : Vec Ideal S6x96x768 .f32) (x1 : Vec Ideal S96x768 .f32) (i : S96x768.Idx) :
    k0_pay37 x0 x1 i = x0 (ix3 2 (i 0) (i 1)) := column_apply x0 2 _ i
theorem col3 (x0 : Vec Ideal S6x96x768 .f32) (x1 : Vec Ideal S96x768 .f32) (i : S96x768.Idx) :
    k0_pay38 x0 x1 i = x0 (ix3 3 (i 0) (i 1)) := column_apply x0 3 _ i
theorem col4 (x0 : Vec Ideal S6x96x768 .f32) (x1 : Vec Ideal S96x768 .f32) (i : S96x768.Idx) :
    k0_pay39 x0 x1 i = x0 (ix3 4 (i 0) (i 1)) := column_apply x0 4 _ i
theorem col5 (x0 : Vec Ideal S6x96x768 .f32) (i : S96x768.Idx) :
    k0_pay9 (View.ld x0 r0_6) i = x0 (ix3 5 (i 0) (i 1)) := column_apply x0 5 _ i

section Stores

variable (z v0 v1 v2 v3 v4 v5 g : FVec Ideal S96x768 .f32) (x : S1x96x768.Idx) (hz : z = broadcast S96x768 nil)
include hz

theorem store2 : k0_pay13 z v0 (k0_pay12 g) x = tapAt 2 (g (inPlane x)) ![v0 (inPlane x), nil, nil, nil, nil, nil] := by
  subst hz
  unfold k0_pay13
  refine (stored_apply _ x).trans ?_
  unfold k0_pay12 k0_pay2
  simp only [shapeCast_self]
  rfl

theorem store3 : k0_pay19 z v1 (k0_pay16 g) (k0_pay17 g) (k0_pay18 g v0) x
    = tapAt 3 (g (inPlane x)) ![v0 (inPlane x), v1 (inPlane x), nil, nil, nil, nil] := by
  subst hz
  unfold k0_pay19
  exact (stored_apply _ x).trans rfl

theorem store4 : k0_pay20 g z v0 v1 x = tapAt 4 (g (inPlane x)) ![v0 (inPlane x), v1 (inPlane x), nil, nil, nil, nil] := by
  subst hz
  unfold k0_pay20
  exact (stored_apply _ x).trans rfl

theorem store5 : k0_pay22 z v0 v1 v2 (k0_pay21 g) (Scalar.ofBits .f32 0x3F800000#32) x
    = tapAt 5 (g (inPlane x)) ![v0 (inPlane x), v1 (inPlane x), v2 (inPlane x), nil, nil, nil] := by
  subst hz
  unfold k0_pay22
  exact (stored_apply _ x).trans rfl

theorem store6 : k0_pay24 z v1 v2 v3 (k0_pay23 g) x
    = tapAt 6 (g (inPlane x)) ![nil, v1 (inPlane x), v2 (inPlane x), v3 (inPlane x), nil, nil] := by
  subst hz
  unfold k0_pay24
  exact (stored_apply _ x).trans rfl

theorem store7 : k0_pay31 z v2 v3 v4 (k0_pay27 g) (k0_pay28 g) (k0_pay29 g) (k0_pay30 g) x
    = tapAt 7 (g (inPlane x)) ![nil, nil, v2 (inPlane x), v3 (inPlane x), v4 (inPlane x), nil] := by
  subst hz
  unfold k0_pay31
  exact (stored_apply _ x).trans rfl

theorem store8 : k0_pay1 (k0_pay32 g z v3 v4 v5) x
    = tapAt 8 (g (inPlane x)) ![nil, nil, nil, v3 (inPlane x), v4 (inPlane x), v5 (inPlane x)] := by
  subst hz
  unfold k0_pay1
  exact (stored_apply _ x).trans rfl

end Stores

/-- An element of the one-plane piece at plane `k` of the output block. -/
theorem piece_emb (k : Fin 9) (inb) (x : S1x96x768.Idx) :
    (Rect.unit (s := S9x96x768) ![k.val, 0, 0] S1x96x768.size inb).emb x = ix3 k (x 1) (x 2) := by
  have h0 : (x 0).val < 1 := (x 0).isLt
  funext a
  refine Fin.ext ?_
  match a with
  | ⟨0, _⟩ => show k.val + 1 * (x 0).val = k.val; omega
  | ⟨1, _⟩ => show 0 + 1 * (x 1).val = (x 1).val; omega
  | ⟨2, _⟩ => show 0 + 1 * (x 2).val = (x 2).val; omega

/-- So a piece whose elements are tap `k`'s is a piece of the block of taps. -/
theorem piece_ok (k : Fin 9) (x0 : Vec Ideal S6x96x768 .f32) (x1 : Vec Ideal S96x768 .f32) (inb) (x : S1x96x768.Idx)
    (u : R32) (h : u = tapAt k.val (x1 (inPlane x)) fun j => x0 (ix3 j (x 1) (x 2))) :
    u = tapBlock x0 x1 ((Rect.unit (s := S9x96x768) ![k.val, 0, 0] S1x96x768.size inb).emb x) := by
  rw [piece_emb k inb x]; exact h

/-- The first body leaves the block of taps. -/
theorem block0 (x0 : Vec Ideal S6x96x768 .f32) (x1 : Vec Ideal S96x768 .f32) : out0_2 x0 x1 = tapBlock x0 x1 := by
  have hz : k0_pay34 x0 x1 = broadcast S96x768 nil := rfl
  funext y
  unfold out0_2
  refine View.canon_apply_of_pieces (tapBlock x0 x1) _ ?_ y (cover0_2 _ _ _ _ _ _ _ _ _ y)
  simp only [List.forall_mem_cons, List.not_mem_nil, false_imp_iff, implies_true, and_true, flow_apply, flow_load]
  refine ⟨fun x => piece_ok 8 x0 x1 _ x _ ?_, fun x => piece_ok 7 x0 x1 _ x _ ?_, fun x => piece_ok 6 x0 x1 _ x _ ?_,
    fun x => piece_ok 5 x0 x1 _ x _ ?_, fun x => piece_ok 4 x0 x1 _ x _ ?_, fun x => piece_ok 3 x0 x1 _ x _ ?_,
    fun x => piece_ok 2 x0 x1 _ x _ ?_, fun x => piece_ok 1 x0 x1 _ x _ ?_, fun x => piece_ok 0 x0 x1 _ x _ ?_⟩
  · refine (store8 _ _ _ _ x1 x hz).trans ?_
    rw [col3, col4, col5]; rfl
  · refine (store7 _ _ _ _ x1 x hz).trans ?_
    rw [col2, col3, col4]; rfl
  · refine (store6 _ _ _ _ x1 x hz).trans ?_
    rw [col1, col2, col3]; rfl
  · refine (store5 _ _ _ _ x1 x hz).trans ?_
    rw [col0, col1, col2]; rfl
  · refine (store4 _ _ _ x1 x hz).trans ?_
    rw [col0, col1]; rfl
  · refine (store3 _ _ _ x1 x hz).trans ?_
    rw [col0, col1]; rfl
  · refine (store2 _ _ x1 x hz).trans ?_
    rw [col0]; rfl
  · unfold k0_pay11; exact (stored_apply _ x).trans rfl
  · unfold k0_pay10; exact (stored_apply _ x).trans rfl

/-- The second body, which has the same text, leaves the block of taps of its own operands. -/
theorem block1 (V : (c : Dev nD) → (b : Ref sig .tc) → Buf (Elt Ideal) ((c : Thread nD τ).loc b)) (c : Dev nD)
    (t : Fin cfg1.N) : outsAt1 V c t = tapBlock (iblk1 V c 0 t) (iblk1 V c 1 t) := by
  refine Eq.trans ?_ (block0 _ _)
  unfold outsAt1 out1_A_2
  rw [View.read_writes_eq_canon _ _ _ (cover1_A_2 c (grid1.coords t) (ms1_0 t) (hs1_0 t) (ms1_1 t) (hs1_1 t) (ms1_2 t)
    (hs1_2 t) (iblk1 V c 0 t) (iblk1 V c 1 t))]
  unfold kernelRun1_A
  dsimp only
  sl_unfold_words
  simp only [View.readAt_eq_ld, (hs1_0 t).read_unread, (hs1_1 t).read_unread]
  rfl

end Cert.KernelIdeal.Taps

end
-- ==== Proof.Arrays.lean ====
/- What the output array holds after each of the two kernel regions. Both regions write planes of one and the same
   form, `planes`: the taps of the flow at a position and of the six volume columns at that position, the volume being
   given for half the rows at a time. The first region fills the rows below 192, the second the other rows, and the
   second starts from what the first left. -/
module

public import proofs.«01_k».proof.Proof.Block

@[expose] public section

set_option maxRecDepth 16384

noncomputable section

namespace Cert.KernelIdeal.Taps

open Cert.KernelIdeal Cert.KernelIdeal.Gen Idealize.ShloMosaic Idealize.ShloMosaic.TcCoe Idealize.SL.Sem
open Idealize.ShloMosaic.ValueIdx
open Idealize.ShloMosaic.Pipeline (Dat Window)

/-- An extended real as the kernel's 32-bit float operations take it. -/
local notation "R32" => Ideal FTy.f32

/-- A row's number inside its half. -/
abbrev half (h : Fin 384) : Fin 192 := ⟨h.val % 192, Nat.mod_lt _ (by decide)⟩

/-- The nine planes that a flow map and half a volume give. -/
def planes (v1 : S384x768.Idx → R32) (v : S6x192x768.Idx → R32) : S9x384x768.Idx → R32 :=
  fun y => tapAt (y 0).val (v1 (ix2 (y 1) (y 2))) fun j => v (ix3 j (half (y 1)) (y 2))

variable (V : (c : Dev nD) → (b : Ref sig .tc) → Buf (Elt Ideal) ((c : Thread nD τ).loc b)) (c : Dev nD)

/-! ## The first region -/

theorem at0_0 : ∀ t : Fin grid0.N, win0_0.index t 0 = 0 ∧ win0_0.index t 1 = t.val ∧ win0_0.index t 2 = 0 := by
  decide +kernel
theorem at0_1 : ∀ t : Fin grid0.N, win0_1.index t 0 = t.val ∧ win0_1.index t 1 = 0 := by
  decide +kernel
theorem at0_2 : ∀ t : Fin grid0.N, win0_2.index t 0 = 0 ∧ win0_2.index t 1 = t.val ∧ win0_2.index t 2 = 0 := by
  decide +kernel

/-- The volume block at point `t`. -/
theorem vol0 (t : Fin cfg0.N) (j : Fin 6) (r : Fin 96) (w : Fin 768) (h : Fin 192) (hh : h.val = t.val * 96 + r.val) :
    iblk0 V c 0 t (ix3 j r w) = V c main_v4 (ix3 j h w) := by
  obtain ⟨e0, e1, e2⟩ := at0_0 t
  refine congrArg (V c main_v4) (funext fun a => Fin.ext ?_)
  match a with
  | ⟨0, _⟩ => refine (win0_0.rect_emb_val t (ix3 j r w) 0).trans ?_; rw [e0]; show 0 * 6 + j.val = j.val; omega
  | ⟨1, _⟩ => refine (win0_0.rect_emb_val t (ix3 j r w) 1).trans ?_; rw [e1]; exact hh.symm
  | ⟨2, _⟩ => refine (win0_0.rect_emb_val t (ix3 j r w) 2).trans ?_; rw [e2]; show 0 * 768 + w.val = w.val; omega

/-- The flow block at point `t`. -/
theorem flow0 (t : Fin cfg0.N) (r : Fin 96) (w : Fin 768) (h : Fin 384) (hh : h.val = t.val * 96 + r.val) :
    iblk0 V c 1 t (ix2 r w) = V c main_v1 (ix2 h w) := by
  obtain ⟨e0, e1⟩ := at0_1 t
  refine congrArg (V c main_v1) (funext fun a => Fin.ext ?_)
  match a with
  | ⟨0, _⟩ => refine (win0_1.rect_emb_val t (ix2 r w) 0).trans ?_; rw [e0]; exact hh.symm
  | ⟨1, _⟩ => refine (win0_1.rect_emb_val t (ix2 r w) 1).trans ?_; rw [e1]; show 0 * 768 + w.val = w.val; omega

/-- Where an element of the output block at point `t` sits. -/
theorem emb0 (t : Fin cfg0.N) (k : Fin 9) (r : Fin 96) (w : Fin 768) (h : Fin 384) (hh : h.val = t.val * 96 + r.val) :
    (win0_2.rect t).emb (ix3 k r w) = ix3 k h w := by
  obtain ⟨e0, e1, e2⟩ := at0_2 t
  refine funext fun a => Fin.ext ?_
  match a with
  | ⟨0, _⟩ => refine (win0_2.rect_emb_val t (ix3 k r w) 0).trans ?_; rw [e0]; show 0 * 9 + k.val = k.val; omega
  | ⟨1, _⟩ => refine (win0_2.rect_emb_val t (ix3 k r w) 1).trans ?_; rw [e1]; exact hh.symm
  | ⟨2, _⟩ => refine (win0_2.rect_emb_val t (ix3 k r w) 2).trans ?_; rw [e2]; show 0 * 768 + w.val = w.val; omega

/-- What point `t` writes back is its block of the planes. -/
theorem flushed0 (t : Fin cfg0.N) :
    (dat0 V c).flushed 2 t = (win0_2.blk t).view.read (Elt Ideal) (planes (V c main_v1) (V c main_v4)) := by
  show (cfg0.win 2).cut (grid0.coords t) ((dat0 V c).after 2 t) = _
  rw [after0_2, block0]
  funext (y : S9x96x768.Idx)
  obtain ⟨k, r, w, rfl⟩ : ∃ k r w, y = ix3 k r w := ⟨y 0, y 1, y 2, eq_ix3 y⟩
  have ht : t.val < 2 := t.isLt
  have hr : r.val < 96 := r.isLt
  have hh : t.val * 96 + r.val < 192 := by omega
  show tapBlock (iblk0 V c 0 t) (iblk0 V c 1 t) (ix3 k r w) = planes (V c main_v1) (V c main_v4) ((win0_2.rect t).emb (ix3 k r w))
  rw [emb0 t k r w ⟨t.val * 96 + r.val, by omega⟩ rfl]
  show tapAt k.val (iblk0 V c 1 t (ix2 r w)) (fun j => iblk0 V c 0 t (ix3 j r w))
    = tapAt k.val (V c main_v1 (ix2 _ w)) fun j => V c main_v4 (ix3 j (half _) w)
  rw [flow0 V c t r w ⟨t.val * 96 + r.val, by omega⟩ rfl]
  exact congrArg _ (funext fun j => vol0 V c t j r w _ (Nat.mod_eq_of_lt hh))

/-- An index is in point `t`'s block when its row is. -/
theorem mem0 (t : Fin cfg0.N) (i : S9x384x768.Idx) (h : t.val * 96 ≤ (i 1).val ∧ (i 1).val < t.val * 96 + 96) :
    i ∈ ((cfg0.win 2).blk t).view.set := by
  show i ∈ ((View.whole main_v5).slice (win0_2.rect t)).set
  rw [View.set_slice_whole, ← Rect.map_emb_univ]
  refine Finset.mem_map.mpr ⟨ix3 (i 0) ⟨(i 1).val - t.val * 96, by omega⟩ (i 2), Finset.mem_univ _, ?_⟩
  exact (emb0 t _ _ _ (i 1) (by show (i 1).val = t.val * 96 + ((i 1).val - t.val * 96); omega)).trans (eq_ix3 i).symm

/-- After the first region the rows below 192 hold the planes. -/
theorem final0 (i : S9x384x768.Idx) (hi : (i 1).val < 192) :
    (dat0 V c).arrAt 2 cfg0.N i = planes (V c main_v1) (V c main_v4) i := by
  have hN : cfg0.N = 2 := N_0
  refine (dat0 V c).arrAt_apply_of_mem 2 (planes (V c main_v1) (V c main_v4)) (fun t _ => flushed0 V c t) cfg0.N
    ⟨(i 1).val / 96, by omega⟩ i (by show (i 1).val / 96 < cfg0.N; omega) (flush0_2 _) (mem0 _ i ?_)
  show (i 1).val / 96 * 96 ≤ (i 1).val ∧ (i 1).val < (i 1).val / 96 * 96 + 96
  omega

/-! ## The second region -/

theorem at1_0 : ∀ t : Fin grid1.N, win1_0.index t 0 = 0 ∧ win1_0.index t 1 = t.val ∧ win1_0.index t 2 = 0 := by
  decide +kernel
theorem at1_1 : ∀ t : Fin grid1.N, win1_1.index t 0 = t.val + 2 ∧ win1_1.index t 1 = 0 := by
  decide +kernel
theorem at1_2 : ∀ t : Fin grid1.N, win1_2.index t 0 = 0 ∧ win1_2.index t 1 = t.val + 2 ∧ win1_2.index t 2 = 0 := by
  decide +kernel

/-- The volume block at point `t`. -/
theorem vol1 (t : Fin cfg1.N) (j : Fin 6) (r : Fin 96) (w : Fin 768) (h : Fin 192) (hh : h.val = t.val * 96 + r.val) :
    iblk1 V c 0 t (ix3 j r w) = V c main_v8 (ix3 j h w) := by
  obtain ⟨e0, e1, e2⟩ := at1_0 t
  refine congrArg (V c main_v8) (funext fun a => Fin.ext ?_)
  match a with
  | ⟨0, _⟩ => refine (win1_0.rect_emb_val t (ix3 j r w) 0).trans ?_; rw [e0]; show 0 * 6 + j.val = j.val; omega
  | ⟨1, _⟩ => refine (win1_0.rect_emb_val t (ix3 j r w) 1).trans ?_; rw [e1]; exact hh.symm
  | ⟨2, _⟩ => refine (win1_0.rect_emb_val t (ix3 j r w) 2).trans ?_; rw [e2]; show 0 * 768 + w.val = w.val; omega

/-- The flow block at point `t`, two blocks further down than in the first region. -/
theorem flow1 (t : Fin cfg1.N) (r : Fin 96) (w : Fin 768) (h : Fin 384) (hh : h.val = (t.val + 2) * 96 + r.val) :
    iblk1 V c 1 t (ix2 r w) = V c main_v1 (ix2 h w) := by
  obtain ⟨e0, e1⟩ := at1_1 t
  refine congrArg (V c main_v1) (funext fun a => Fin.ext ?_)
  match a with
  | ⟨0, _⟩ => refine (win1_1.rect_emb_val t (ix2 r w) 0).trans ?_; rw [e0]; exact hh.symm
  | ⟨1, _⟩ => refine (win1_1.rect_emb_val t (ix2 r w) 1).trans ?_; rw [e1]; show 0 * 768 + w.val = w.val; omega

/-- Where an element of the output block at point `t` sits. -/
theorem emb1 (t : Fin cfg1.N) (k : Fin 9) (r : Fin 96) (w : Fin 768) (h : Fin 384) (hh : h.val = (t.val + 2) * 96 + r.val) :
    (win1_2.rect t).emb (ix3 k r w) = ix3 k h w := by
  obtain ⟨e0, e1, e2⟩ := at1_2 t
  refine funext fun a => Fin.ext ?_
  match a with
  | ⟨0, _⟩ => refine (win1_2.rect_emb_val t (ix3 k r w) 0).trans ?_; rw [e0]; show 0 * 9 + k.val = k.val; omega
  | ⟨1, _⟩ => refine (win1_2.rect_emb_val t (ix3 k r w) 1).trans ?_; rw [e1]; exact hh.symm
  | ⟨2, _⟩ => refine (win1_2.rect_emb_val t (ix3 k r w) 2).trans ?_; rw [e2]; show 0 * 768 + w.val = w.val; omega

/-- What point `t` writes back is its block of the planes. -/
theorem flushed1 (t : Fin cfg1.N) :
    (dat1 V c).flushed 2 t = (win1_2.blk t).view.read (Elt Ideal) (planes (V c main_v1) (V c main_v8)) := by
  show (cfg1.win 2).cut (grid1.coords t) ((dat1 V c).after 2 t) = _
  rw [after1_2, block1]
  funext (y : S9x96x768.Idx)
  obtain ⟨k, r, w, rfl⟩ : ∃ k r w, y = ix3 k r w := ⟨y 0, y 1, y 2, eq_ix3 y⟩
  have ht : t.val < 2 := t.isLt
  have hr : r.val < 96 := r.isLt
  show tapBlock (iblk1 V c 0 t) (iblk1 V c 1 t) (ix3 k r w) = planes (V c main_v1) (V c main_v8) ((win1_2.rect t).emb (ix3 k r w))
  rw [emb1 t k r w ⟨(t.val + 2) * 96 + r.val, by omega⟩ rfl]
  show tapAt k.val (iblk1 V c 1 t (ix2 r w)) (fun j => iblk1 V c 0 t (ix3 j r w))
    = tapAt k.val (V c main_v1 (ix2 _ w)) fun j => V c main_v8 (ix3 j (half _) w)
  rw [flow1 V c t r w ⟨(t.val + 2) * 96 + r.val, by omega⟩ rfl]
  exact congrArg _ (funext fun j => vol1 V c t j r w _ (by show ((t.val + 2) * 96 + r.val) % 192 = _; omega))

/-- An index is in point `t`'s block exactly when its row is. -/
theorem mem1 (t : Fin cfg1.N) (i : S9x384x768.Idx) :
    i ∈ ((cfg1.win 2).blk t).view.set ↔ (t.val + 2) * 96 ≤ (i 1).val ∧ (i 1).val < (t.val + 2) * 96 + 96 := by
  show i ∈ ((View.whole main_v9).slice (win1_2.rect t)).set ↔ _
  rw [View.set_slice_whole, ← Rect.map_emb_univ, Finset.mem_map]
  refine ⟨?_, fun h => ⟨ix3 (i 0) ⟨(i 1).val - (t.val + 2) * 96, by omega⟩ (i 2), Finset.mem_univ _, ?_⟩⟩
  · rintro ⟨y, -, rfl⟩
    have e := win1_2.rect_emb_val t y 1
    rw [(at1_2 t).2.1] at e
    have hy : (y 1).val < 96 := (y 1).isLt
    have e' : ((win1_2.rect t).emb y 1).val = (t.val + 2) * 96 + (y 1).val := e
    constructor
    · show (t.val + 2) * 96 ≤ ((win1_2.rect t).emb y 1).val; omega
    · show ((win1_2.rect t).emb y 1).val < (t.val + 2) * 96 + 96; omega
  · exact (emb1 t _ _ _ (i 1) (by show (i 1).val = (t.val + 2) * 96 + ((i 1).val - (t.val + 2) * 96); omega)).trans (eq_ix3 i).symm

/-- After the second region the rows from 192 on hold the planes, -/
theorem final1_high (i : S9x384x768.Idx) (hi : 192 ≤ (i 1).val) :
    (dat1 V c).arrAt 2 cfg1.N i = planes (V c main_v1) (V c main_v8) i := by
  have hN : cfg1.N = 2 := N_1
  have hlt : (i 1).val < 384 := (i 1).isLt
  refine (dat1 V c).arrAt_apply_of_mem 2 (planes (V c main_v1) (V c main_v8)) (fun t _ => flushed1 V c t) cfg1.N
    ⟨(i 1).val / 96 - 2, by omega⟩ i (by show (i 1).val / 96 - 2 < cfg1.N; omega) (flush1_2 _) ((mem1 _ i).mpr ?_)
  show ((i 1).val / 96 - 2 + 2) * 96 ≤ (i 1).val ∧ (i 1).val < ((i 1).val / 96 - 2 + 2) * 96 + 96
  omega

/-- and the rows below keep what the region started from. -/
theorem final1_low (i : S9x384x768.Idx) (hi : (i 1).val < 192) : (dat1 V c).arrAt 2 cfg1.N i = V c main_v9 i := by
  refine ((dat1 V c).arrAt_apply_of_forall_not_mem 2 cfg1.N i fun t _ _ hm => ?_).trans (congrFun (A_eq1 V c 2) i)
  have := ((mem1 t i).mp hm).1
  omega

end Cert.KernelIdeal.Taps

end
-- ==== Proof.Final.lean ====
/- What the kernel's program leaves in its result array, as a function of its two arguments: at plane `k`, row `h` and
   column `w` the tap `k` of the flow there and of the first six volume columns of position `768 h + w`. -/
module

public import proofs.«01_k».proof.Proof.Arrays
public import Idealize.ShloMosaic.Lib.StableHlo.Run

@[expose] public section

set_option maxRecDepth 16384

noncomputable section

namespace Cert.KernelIdeal.Taps

open Cert.KernelIdeal Cert.KernelIdeal.Gen Idealize.ShloMosaic Idealize.ShloMosaic.TcCoe Idealize.SL.Sem
open Idealize.ShloMosaic.ValueIdx

/-- An extended real as the kernel's 32-bit float operations take it. -/
local notation "R32" => Ideal FTy.f32

/-- A volume's column `j` at the position of row `h` and column `w`. -/
def colAt (a0 : S1x1x294912x192.Idx → R32) (h : Fin 384) (w : Fin 768) (j : Fin 6) : R32 :=
  a0 (ix4 (0 : Fin 1) (0 : Fin 1) (⟨h.val * 768 + w.val, by omega⟩ : Fin 294912) (⟨j.val, by omega⟩ : Fin 192))

/-- The flow at row `h` and column `w`. -/
def flowAt (a1 : S1x384x768x1.Idx → R32) (h : Fin 384) (w : Fin 768) : R32 := a1 (ix4 (0 : Fin 1) h w (0 : Fin 1))

/-! ## Reading the host operations -/

/-- The flow without its outer axes. -/
theorem flow_read (a1 : S1x384x768x1.Idx → R32) (h : Fin 384) (w : Fin 768) :
    shapeCast S384x768 a1 shapeCasts_S1x384x768x1_S384x768 (ix2 h w) = flowAt a1 h w := by
  refine shapeCast_apply _ _ _ _ ?_
  rw [Shape.rowMajor_val_four, Shape.rowMajor_val_two]
  show ((0 * 384 + h.val) * 768 + w.val) * 1 + 0 = h.val * 768 + w.val
  omega

/-- The first half's six columns, laid out by column. -/
theorem low_read (a0 : S1x1x294912x192.Idx → R32) (j : Fin 6) (h : Fin 192) (w : Fin 768) (h' : Fin 384) (hh : h'.val = h.val) :
    shapeCast S6x192x768 (transpose S6x147456 [1, 0] (extractStridedSlice S147456x6 ![0, 0]
      (shapeCast S294912x192 a0 shapeCasts_S1x1x294912x192_S294912x192) slices_S294912x192_S147456x6_0_0)
      transposes_S147456x6_S6x147456_1_0) shapeCasts_S6x147456_S6x192x768 (ix3 j h w) = colAt a0 h' w j := by
  have e : h.val * 768 + w.val < 147456 := by omega
  rw [shapeCast_apply _ _ (ix3 j h w) (ix2 j (⟨h.val * 768 + w.val, e⟩ : Fin 147456)) (by
      rw [Shape.rowMajor_val_two, Shape.rowMajor_val_three]
      show j.val * 147456 + (h.val * 768 + w.val) = (j.val * 192 + h.val) * 768 + w.val; omega),
    transpose_apply _ _ _ _ (ix2 (⟨h.val * 768 + w.val, e⟩ : Fin 147456) j) (by
      intro a; match a with | ⟨0, _⟩ => rfl | ⟨1, _⟩ => rfl),
    extractStridedSlice_apply _ _ _ _ (ix2 (⟨h.val * 768 + w.val, by omega⟩ : Fin 294912) (⟨j.val, by omega⟩ : Fin 192)) (by
      intro a; match a with
      | ⟨0, _⟩ => show h.val * 768 + w.val = 0 + (h.val * 768 + w.val); omega
      | ⟨1, _⟩ => show j.val = 0 + j.val; omega)]
  refine shapeCast_apply _ _ _ _ ?_
  rw [Shape.rowMajor_val_four, Shape.rowMajor_val_two]
  show ((0 * 1 + 0) * 294912 + (h'.val * 768 + w.val)) * 192 + j.val = (h.val * 768 + w.val) * 192 + j.val
  omega

/-- The second half's six columns, laid out by column. -/
theorem high_read (a0 : S1x1x294912x192.Idx → R32) (j : Fin 6) (h : Fin 192) (w : Fin 768) (h' : Fin 384) (hh : h'.val = h.val + 192) :
    shapeCast S6x192x768 (transpose S6x147456 [1, 0] (extractStridedSlice S147456x6 ![147456, 0]
      (shapeCast S294912x192 a0 shapeCasts_S1x1x294912x192_S294912x192) slices_S294912x192_S147456x6_147456_0)
      transposes_S147456x6_S6x147456_1_0) shapeCasts_S6x147456_S6x192x768 (ix3 j h w) = colAt a0 h' w j := by
  have e : h.val * 768 + w.val < 147456 := by omega
  rw [shapeCast_apply _ _ (ix3 j h w) (ix2 j (⟨h.val * 768 + w.val, e⟩ : Fin 147456)) (by
      rw [Shape.rowMajor_val_two, Shape.rowMajor_val_three]
      show j.val * 147456 + (h.val * 768 + w.val) = (j.val * 192 + h.val) * 768 + w.val; omega),
    transpose_apply _ _ _ _ (ix2 (⟨h.val * 768 + w.val, e⟩ : Fin 147456) j) (by
      intro a; match a with | ⟨0, _⟩ => rfl | ⟨1, _⟩ => rfl),
    extractStridedSlice_apply _ _ _ _ (ix2 (⟨147456 + (h.val * 768 + w.val), by omega⟩ : Fin 294912) (⟨j.val, by omega⟩ : Fin 192)) (by
      intro a; match a with
      | ⟨0, _⟩ => show 147456 + (h.val * 768 + w.val) = 147456 + (h.val * 768 + w.val); omega
      | ⟨1, _⟩ => show j.val = 0 + j.val; omega)]
  refine shapeCast_apply _ _ _ _ ?_
  rw [Shape.rowMajor_val_four, Shape.rowMajor_val_two]
  show ((0 * 1 + 0) * 294912 + (h'.val * 768 + w.val)) * 192 + j.val = (147456 + (h.val * 768 + w.val)) * 192 + j.val
  omega

/-! ## The contents at the regions' entries -/

variable (m : (ℓ : Loc nD τ sig) → Buf (Elt Ideal) ℓ) (ρ : Dev nD → PrngReg) (c : Dev nD)

theorem v1_flow : (V1 m ρ c main_v1 : S384x768.Idx → R32)
    = shapeCast S384x768 (m ((c : Thread nD τ).loc main_arg1)) shapeCasts_S1x384x768x1_S384x768 := by
  show StableHlo.after hostOps0 (W0 m ρ c) (Proc.devRef .tc main_v1) = _
  after_results
  rfl

theorem v1_rows : (W1 m ρ c (Proc.devRef .tc main_v0) : S294912x192.Idx → R32)
    = shapeCast S294912x192 (m ((c : Thread nD τ).loc main_arg0)) shapeCasts_S1x1x294912x192_S294912x192 := by
  show StableHlo.after hostOps0 (W0 m ρ c) (Proc.devRef .tc main_v0) = _
  after_results
  rfl

theorem v1_vol : (V1 m ρ c main_v4 : S6x192x768.Idx → R32)
    = shapeCast S6x192x768 (transpose S6x147456 [1, 0] (extractStridedSlice S147456x6 ![0, 0]
      (shapeCast S294912x192 (m ((c : Thread nD τ).loc main_arg0)) shapeCasts_S1x1x294912x192_S294912x192)
      slices_S294912x192_S147456x6_0_0) transposes_S147456x6_S6x147456_1_0) shapeCasts_S6x147456_S6x192x768 := by
  show StableHlo.after hostOps0 (W0 m ρ c) (Proc.devRef .tc main_v4) = _
  after_results
  rfl

theorem v3_flow : V3 m ρ c main_v1 = V1 m ρ c main_v1 :=
  (W3_of m ρ c main_v1 (by decide)).trans (W2_of m ρ c main_v1 (by decide))

theorem v3_vol : (V3 m ρ c main_v8 : S6x192x768.Idx → R32)
    = shapeCast S6x192x768 (transpose S6x147456 [1, 0] (extractStridedSlice S147456x6 ![147456, 0]
      (shapeCast S294912x192 (m ((c : Thread nD τ).loc main_arg0)) shapeCasts_S1x1x294912x192_S294912x192)
      slices_S294912x192_S147456x6_147456_0) transposes_S147456x6_S6x147456_1_0) shapeCasts_S6x147456_S6x192x768 := by
  rw [← v1_rows m ρ c, ← W2_of m ρ c main_v0 (by decide)]
  show StableHlo.after hostOps1 (W2 m ρ c) (Proc.devRef .tc main_v8) = _
  after_results
  rfl

theorem v3_start : V3 m ρ c main_v9 = (dat0 (V1 m ρ) c).arrAt 2 cfg0.N := by
  refine Eq.trans ?_ (W2_arr m ρ c 2)
  show StableHlo.after hostOps1 (W2 m ρ c) (Proc.devRef .tc main_v9) = _
  after_results
  rfl

/-! ## The result array -/

/-- The array both regions fill. -/
theorem filled (k : Fin 9) (h : Fin 384) (w : Fin 768) :
    (dat1 (V3 m ρ) c).arrAt 2 cfg1.N (ix3 k h w)
      = tapAt k.val (flowAt (m ((c : Thread nD τ).loc main_arg1)) h w) (colAt (m ((c : Thread nD τ).loc main_arg0)) h w) := by
  by_cases hh : h.val < 192
  · refine (final1_low (V3 m ρ) c (ix3 k h w) hh).trans ?_
    rw [v3_start]
    refine (final0 (V1 m ρ) c (ix3 k h w) hh).trans ?_
    show tapAt k.val ((V1 m ρ c main_v1 : S384x768.Idx → R32) (ix2 h w))
      (fun j => (V1 m ρ c main_v4 : S6x192x768.Idx → R32) (ix3 j (half h) w)) = _
    rw [v1_flow, v1_vol, flow_read]
    exact congrArg _ (funext fun j => low_read _ j (half h) w h (by show h.val = h.val % 192; omega))
  · refine (final1_high (V3 m ρ) c (ix3 k h w) (by show 192 ≤ h.val; omega)).trans ?_
    show tapAt k.val ((V3 m ρ c main_v1 : S384x768.Idx → R32) (ix2 h w))
      (fun j => (V3 m ρ c main_v8 : S6x192x768.Idx → R32) (ix3 j (half h) w)) = _
    rw [v3_flow, v1_flow, v3_vol, flow_read]
    exact congrArg _ (funext fun j => high_read _ j (half h) w h (by show h.val = h.val % 192 + 192; omega))

/-- The result array, entry by entry. -/
theorem result_apply (k : Fin 9) (h : Fin 384) (w : Fin 768) :
    (W5 m ρ c (Proc.devRef .tc main_v10) : S1x9x384x768.Idx → R32) (ix4 (0 : Fin 1) k h w)
      = tapAt k.val (flowAt (m ((c : Thread nD τ).loc main_arg1)) h w) (colAt (m ((c : Thread nD τ).loc main_arg0)) h w) := by
  have e : (W5 m ρ c (Proc.devRef .tc main_v10) : S1x9x384x768.Idx → R32)
      = shapeCast S1x9x384x768 ((dat1 (V3 m ρ) c).arrAt 2 cfg1.N) shapeCasts_S9x384x768_S1x9x384x768 := by
    rw [← W4_arr m ρ c 2]
    show StableHlo.after hostOps2 (W4 m ρ c) (Proc.devRef .tc main_v10) = _
    after_results
    rfl
  rw [e, shapeCast_apply _ _ _ (ix3 k h w) (by
    rw [Shape.rowMajor_val_three, Shape.rowMajor_val_four]
    show (k.val * 384 + h.val) * 768 + w.val = ((0 * 9 + k.val) * 384 + h.val) * 768 + w.val; omega)]
  exact filled m ρ c k h w

end Cert.KernelIdeal.Taps

end
-- ==== Proof.Sampling.lean ====
/- The mathematics of the problem, free of any program: the position of a tap on the real line, the volume read with
   zeros outside, and the weighted mean of the two cells next to a position. Also the values of the float constants
   that the programs write. -/
module

public import Idealize.ShloMosaic.PureOps.Ideal
public import Mathlib.Tactic.Linarith
public import Mathlib.Tactic.NormNum
public import Mathlib.Tactic.Ring

@[expose] public section

noncomputable section

namespace Cert.Sampling

open Idealize.ShloMosaic

/-- The position of tap `k` at flow `f`. -/
def spot (k : Nat) (f : ℝ) : ℝ := (f + ((k : ℝ) - 4)) * 191 / 192

/-- The volume's cell `i`, zero outside. -/
def cell (v : Fin 192 → EReal) (i : ℤ) : EReal := if h : 0 ≤ i ∧ i ≤ 191 then v ⟨i.toNat, by omega⟩ else 0

/-- The weighted mean of the two cells next to the position `x`. -/
def mix (x : ℝ) (p : ℤ → EReal) : EReal :=
  ((1 - (x - ⌊x⌋) : ℝ) : EReal) * p ⌊x⌋ + ((x - ⌊x⌋ : ℝ) : EReal) * p (⌊x⌋ + 1)

theorem cell_neg (v : Fin 192 → EReal) (i : ℤ) (h : i < 0) : cell v i = 0 := dif_neg fun e => by omega

theorem cell_nat (v : Fin 192 → EReal) (i : ℤ) (n : Nat) (hn : n < 192) (h : i = n) : cell v i = v ⟨n, hn⟩ := by
  subst h
  unfold cell
  rw [dif_pos (by omega)]
  rfl

/-! ## The constants -/

theorem lit_zero : Ideal.ofBits .f32 0x00000000#32 = ((0 : ℝ) : EReal) := by
  simp [Ideal.ofBits, Ideal.ieee, -EReal.coe_mul]
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
theorem lit_eight : Ideal.ofBits .f32 0x41000000#32 = ((8 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_neg_two : Ideal.ofBits .f32 0xC0000000#32 = ((-2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_191 : Ideal.ofBits .f32 0x433F0000#32 = ((191 : ℝ) : EReal) := by
  simp [Ideal.ofBits, Ideal.ieee, -EReal.coe_mul]; norm_num
theorem lit_192 : Ideal.ofBits .f32 0x43400000#32 = ((192 : ℝ) : EReal) := by
  simp [Ideal.ofBits, Ideal.ieee, -EReal.coe_mul]; norm_num

/-! ## Real arithmetic inside the extended reals -/

theorem div_real (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The chain of operations that turns a shifted flow into a position, on reals. -/
theorem chain_real (f o : ℝ) :
    (((Ideal.div (((2 : ℝ) : EReal) * ((f : EReal) + (o : EReal))) ((192 : ℝ) : EReal) - ((1 : ℝ) : EReal)) + ((1 : ℝ) : EReal))
      * ((1 / 2 : ℝ) : EReal)) * ((191 : ℝ) : EReal) = (((f + o) * 191 / 192 : ℝ) : EReal) := by
  rw [← EReal.coe_add, ← EReal.coe_mul, div_real _ _ (by norm_num), ← EReal.coe_sub, ← EReal.coe_add, ← EReal.coe_mul,
    ← EReal.coe_mul]
  congr 1
  ring

/-- Bounds on a position's whole part from bounds on the shifted flow. -/
theorem floor_two (x : ℝ) (a : ℤ) (h0 : (a : ℝ) ≤ x) (h1 : x < a + 2) : ⌊x⌋ = a ∨ ⌊x⌋ = a + 1 := by
  have l : a ≤ ⌊x⌋ := Int.le_floor.mpr h0
  have u : ⌊x⌋ < a + 2 := Int.floor_lt.mpr (by push_cast; exact h1)
  omega

/-- A mean of cells both of which are below the volume is zero. -/
theorem mix_below (x : ℝ) (v : Fin 192 → EReal) (h : x < -1) : mix x (cell v) = 0 := by
  have u : ⌊x⌋ < -1 := Int.floor_lt.mpr (by push_cast; exact h)
  unfold mix
  rw [cell_neg v _ (by omega), cell_neg v _ (by omega), mul_zero, mul_zero, add_zero]

end Cert.Sampling

end
-- ==== Proof.Equation.lean ====
/- The kernel's taps are the weighted means of the problem. Each tap knows the two whole parts that its position can
   have for a flow in [0, 1), and adds up the shares of the columns that these two reach. -/
module

public import proofs.«01_k».proof.Proof.Block
public import proofs.«01_k».proof.Proof.Sampling

@[expose] public section

noncomputable section

namespace Cert.KernelIdeal.Taps

open Idealize.ShloMosaic Cert.Sampling

/-- A tap's position is the real one. -/
theorem place_real (c : BitVec 32) (o f : ℝ) (h : Ideal.ofBits .f32 c = (o : EReal)) :
    place c (f : EReal) = (((f + o) * 191 / 192 : ℝ) : EReal) := by
  unfold place lit
  simp only [Ideal.ofBits_def, Ideal.mulf_def, Ideal.addf_def, Ideal.subf_def, Ideal.divf_def]
  rw [h, lit_two, lit_192, lit_one, lit_half, lit_191]
  exact chain_real f o

theorem whole_real (x : ℝ) : whole (x : EReal) = (((⌊x⌋ : ℤ) : ℝ) : EReal) := rfl

theorem upper_real (x : ℝ) : upper (x : EReal) = ((x - ⌊x⌋ : ℝ) : EReal) := by
  unfold upper
  rw [whole_real, Ideal.subf_def, ← EReal.coe_sub]

theorem lower_real (x : ℝ) : lower (x : EReal) = ((1 - (x - ⌊x⌋) : ℝ) : EReal) := by
  unfold lower lit
  rw [upper_real, Ideal.subf_def, Ideal.ofBits_def, lit_one, ← EReal.coe_sub]

theorem here_real (A : BitVec 32) (a : ℤ) (hA : Ideal.ofBits .f32 A = ((a : ℝ) : EReal)) (x : ℝ) :
    here A (x : EReal) = BitVec.ofBool (decide (⌊x⌋ = a)) := by
  have e : ((((⌊x⌋ : ℤ) : ℝ) : EReal) = ((a : ℝ) : EReal)) ↔ ⌊x⌋ = a := by
    rw [EReal.coe_eq_coe_iff]; exact Int.cast_inj
  unfold here lit
  rw [whole_real, Ideal.ofBits_def, hA]
  show BitVec.ofBool (decide ((((⌊x⌋ : ℤ) : ℝ) : EReal) = ((a : ℝ) : EReal))) = _
  simp only [e]

section Shares
variable (A : BitVec 32) (a : ℤ) (hA : Ideal.ofBits .f32 A = ((a : ℝ) : EReal)) (x : ℝ) (p : EReal)
include hA

theorem share0_lo (h : ⌊x⌋ = a) : share0 A (x : EReal) p = ((1 - (x - ⌊x⌋) : ℝ) : EReal) * p := by
  unfold share0
  rw [here_real A a hA, decide_eq_true h, lower_real]; rfl
theorem share1_lo (h : ⌊x⌋ = a) : share1 A (x : EReal) p = ((x - ⌊x⌋ : ℝ) : EReal) * p := by
  unfold share1
  rw [here_real A a hA, decide_eq_true h, upper_real]; rfl
theorem share2_lo (h : ⌊x⌋ = a) : share2 A (x : EReal) p = 0 := by
  unfold share2 lit
  rw [here_real A a hA, decide_eq_true h, Ideal.ofBits_def, lit_zero]
  exact zero_mul p
theorem share0_hi (h : ⌊x⌋ = a + 1) : share0 A (x : EReal) p = 0 := by
  unfold share0 lit
  rw [here_real A a hA, decide_eq_false (by omega), Ideal.ofBits_def, lit_zero]
  exact zero_mul p
theorem share1_hi (h : ⌊x⌋ = a + 1) : share1 A (x : EReal) p = ((1 - (x - ⌊x⌋) : ℝ) : EReal) * p := by
  unfold share1
  rw [here_real A a hA, decide_eq_false (by omega), lower_real]; rfl
theorem share2_hi (h : ⌊x⌋ = a + 1) : share2 A (x : EReal) p = ((x - ⌊x⌋ : ℝ) : EReal) * p := by
  unfold share2
  rw [here_real A a hA, decide_eq_false (by omega), upper_real]; rfl

end Shares

theorem nil_zero : (nil : EReal) = 0 := lit_zero

/-- The three shares add up to the mean at the position, whichever of its two values the whole part has. -/
theorem shares_mix (A : BitVec 32) (a : ℤ) (hA : Ideal.ofBits .f32 A = ((a : ℝ) : EReal)) (x : ℝ)
    (h : ⌊x⌋ = a ∨ ⌊x⌋ = a + 1) (p : ℤ → EReal) :
    share0 A (x : EReal) (p a) + share1 A (x : EReal) (p (a + 1)) + share2 A (x : EReal) (p (a + 2)) = mix x p := by
  unfold mix
  rcases h with h | h
  · rw [share0_lo A a hA x _ h, share1_lo A a hA x _ h, share2_lo A a hA x _ h, h, add_zero]
  · rw [share0_hi A a hA x _ h, share1_hi A a hA x _ h, share2_hi A a hA x _ h, h, zero_add, add_assoc]; rfl

/-- A tap with three columns in the volume. -/
theorem tap3_mix (c A : BitVec 32) (o f : ℝ) (a : ℤ) (ho : Ideal.ofBits .f32 c = (o : EReal))
    (hA : Ideal.ofBits .f32 A = ((a : ℝ) : EReal)) (h0 : (a : ℝ) ≤ (f + o) * 191 / 192) (h1 : (f + o) * 191 / 192 < a + 2)
    (p : ℤ → EReal) : tap3 c A (f : EReal) (p a) (p (a + 1)) (p (a + 2)) = mix ((f + o) * 191 / 192) p := by
  unfold tap3
  rw [place_real c o f ho, ← shares_mix A a hA _ (floor_two _ a h0 h1) p]
  show (nil + share0 A _ _) + share1 A _ _ + share2 A _ _ = _
  rw [nil_zero, zero_add]

/-- Every tap is the mean at its position. -/
theorem tapAt_mix (k : Fin 9) (f : ℝ) (h0 : 0 ≤ f) (h1 : f < 1) (v : Fin 192 → EReal) (u : Fin 6 → EReal)
    (hu : ∀ j : Fin 6, u j = v ⟨j.val, by omega⟩) : tapAt k.val (f : EReal) u = mix (spot k.val f) (cell v) := by
  have at0 : u 0 = cell v 0 := (hu 0).trans (cell_nat v 0 0 (by decide) rfl).symm
  have at1 : u 1 = cell v 1 := (hu 1).trans (cell_nat v 1 1 (by decide) rfl).symm
  have at2 : u 2 = cell v 2 := (hu 2).trans (cell_nat v 2 2 (by decide) rfl).symm
  have at3 : u 3 = cell v 3 := (hu 3).trans (cell_nat v 3 3 (by decide) rfl).symm
  have at4 : u 4 = cell v 4 := (hu 4).trans (cell_nat v 4 4 (by decide) rfl).symm
  have at5 : u 5 = cell v 5 := (hu 5).trans (cell_nat v 5 5 (by decide) rfl).symm
  have sp : ∀ (n : Nat) (o : ℝ), (n : ℝ) - 4 = o → spot n f = (f + o) * 191 / 192 := by
    intro n o h; unfold spot; rw [h]
  match k with
  | ⟨0, _⟩ =>
    show (nil : EReal) = _
    rw [nil_zero, mix_below]
    unfold spot; push_cast; linarith
  | ⟨1, _⟩ =>
    show (nil : EReal) = _
    rw [nil_zero, mix_below]
    unfold spot; push_cast; linarith
  | ⟨2, _⟩ =>
    show (nil : EReal) + share2 0xC0000000#32 (place 0xC0000000#32 (f : EReal)) (u 0) = mix (spot 2 f) (cell v)
    rw [sp 2 (-2) (by norm_num), place_real _ (-2) f lit_neg_two, nil_zero, at0,
      ← shares_mix 0xC0000000#32 (-2) (by rw [lit_neg_two]; norm_num) _ (floor_two _ _ (by push_cast; linarith) (by push_cast; linarith)) (cell v),
      cell_neg v (-2) (by decide), cell_neg v (-2 + 1) (by decide)]
    show 0 + _ = FloatOps.mulf _ _ + FloatOps.mulf _ _ + _
    rw [Ideal.mulf_def, Ideal.mulf_def, mul_zero, mul_zero, add_zero]
    rfl
  | ⟨3, _⟩ =>
    show ((nil : EReal) + share1 0xBF800000#32 (place 0xBF800000#32 (f : EReal)) (u 0))
      + share2 0xBF800000#32 (place 0xBF800000#32 (f : EReal)) (u 1) = mix (spot 3 f) (cell v)
    rw [sp 3 (-1) (by norm_num), place_real _ (-1) f lit_neg_one, nil_zero, at0, at1,
      ← shares_mix 0xBF800000#32 (-1) (by rw [lit_neg_one]; norm_num) _ (floor_two _ _ (by push_cast; linarith) (by push_cast; linarith)) (cell v),
      cell_neg v (-1) (by decide)]
    show 0 + _ + _ = FloatOps.mulf _ _ + _ + _
    rw [Ideal.mulf_def, mul_zero]
    rfl
  | ⟨4, _⟩ =>
    show ((nil : EReal) + lower (place 0x00000000#32 (f : EReal)) * u 0) + upper (place 0x00000000#32 (f : EReal)) * u 1
      = mix (spot 4 f) (cell v)
    have hx : ⌊(f + 0) * 191 / 192⌋ = 0 := Int.floor_eq_iff.mpr ⟨by push_cast; linarith, by push_cast; linarith⟩
    rw [sp 4 0 (by norm_num), place_real _ 0 f lit_zero, nil_zero, at0, at1, lower_real, upper_real, zero_add]
    unfold mix
    rw [hx]
    rfl
  | ⟨5, _⟩ =>
    show tap3 0x3F800000#32 0x00000000#32 (f : EReal) (u 0) (u 1) (u 2) = mix (spot 5 f) (cell v)
    rw [sp 5 1 (by norm_num), at0, at1, at2]
    exact tap3_mix _ _ 1 f 0 lit_one (by rw [lit_zero]; norm_num) (by push_cast; linarith) (by push_cast; linarith) (cell v)
  | ⟨6, _⟩ =>
    show tap3 0x40000000#32 0x3F800000#32 (f : EReal) (u 1) (u 2) (u 3) = mix (spot 6 f) (cell v)
    rw [sp 6 2 (by norm_num), at1, at2, at3]
    exact tap3_mix _ _ 2 f 1 lit_two (by rw [lit_one]; norm_num) (by push_cast; linarith) (by push_cast; linarith) (cell v)
  | ⟨7, _⟩ =>
    show tap3 0x40400000#32 0x40000000#32 (f : EReal) (u 2) (u 3) (u 4) = mix (spot 7 f) (cell v)
    rw [sp 7 3 (by norm_num), at2, at3, at4]
    exact tap3_mix _ _ 3 f 2 lit_three (by rw [lit_two]; norm_num) (by push_cast; linarith) (by push_cast; linarith) (cell v)
  | ⟨8, _⟩ =>
    show tap3 0x40800000#32 0x40400000#32 (f : EReal) (u 3) (u 4) (u 5) = mix (spot 8 f) (cell v)
    rw [sp 8 4 (by norm_num), at3, at4, at5]
    exact tap3_mix _ _ 4 f 3 lit_four (by rw [lit_three]; norm_num) (by push_cast; linarith) (by push_cast; linarith) (cell v)

end Cert.KernelIdeal.Taps

end
-- ==== Proof.RefTake.lean ====
/- The reference's masked read of the volume: at row `p` and tap `k` it is the volume's cell at the integer it is given,
   zero outside the volume. The clip, the wrap of negative indices, the bounds mask and the gather all drop out. -/
module

public import proofs.«01_k».proof.Proof.Gen.ReferenceIdeal.Read
public import proofs.«01_k».proof.Proof.Sampling
public import Idealize.ShloMosaic.PureOps.Reduce
public import Idealize.ShloMosaic.Lib.ValueIdx
public import Idealize.ShloMosaic.Lib.Pipeline.Value

@[expose] public section

set_option maxRecDepth 16384

noncomputable section

namespace Cert.ReferenceIdeal.Taps

open Cert.ReferenceIdeal Cert.ReferenceIdeal.Gen Cert.ReferenceIdeal.Read Idealize.ShloMosaic Idealize.ShloMosaic.ValueIdx
open Cert.Sampling

/-! ## Integers in the volume's range -/

theorem sge_zero (i : BitVec 32) : IntOp.cmpi .sge i 0#32 = BitVec.ofBool (decide (0 ≤ i.toInt)) := by
  show BitVec.ofBool ((0#32).sle i) = _
  rw [BitVec.sle_eq_decide]; rfl

theorem sle_last (i : BitVec 32) : IntOp.cmpi .sle i 191#32 = BitVec.ofBool (decide (i.toInt ≤ 191)) := by
  show BitVec.ofBool (i.sle 191#32) = _
  rw [BitVec.sle_eq_decide]; rfl

theorem slt_zero (i : BitVec 32) (h : 0 ≤ i.toInt) : IntOp.cmpi .slt i 0#32 = 0#1 := by
  show BitVec.ofBool (i.slt 0#32) = _
  rw [BitVec.slt_eq_decide, decide_eq_false (by show ¬ i.toInt < 0; omega)]; rfl

/-- The two range tests together pass exactly inside the volume. -/
theorem inside_iff (i : BitVec 32) :
    IntOp.andi (IntOp.cmpi .sge i 0#32) (IntOp.cmpi .sle i 191#32) = BitVec.ofBool (decide (0 ≤ i.toInt ∧ i.toInt ≤ 191)) := by
  rw [sge_zero, sle_last]
  by_cases a : 0 ≤ i.toInt <;> by_cases b : i.toInt ≤ 191 <;> simp [a, b, IntOp.andi]

/-- Inside the volume the clip changes nothing. -/
theorem clip_inside (i : BitVec 32) (h : 0 ≤ i.toInt ∧ i.toInt ≤ 191) : IntOp.minsi 191#32 (IntOp.maxsi 0#32 i) = i := by
  have e : IntOp.maxsi 0#32 i = i := by
    unfold IntOp.maxsi
    rw [BitVec.slt_eq_decide, decide_eq_false (by show ¬ i.toInt < 0; omega)]; rfl
  rw [e]
  unfold IntOp.minsi
  rw [BitVec.slt_eq_decide, decide_eq_false (by show ¬ 191 < i.toInt; omega)]; rfl

/-! ## The two operations that read by value -/

/-- The gather along a row reads the row at the index given, clamped to the row. -/
theorem gather_row {α : Type} (x : S294912x192.Idx → α) (idx : IVec S294912x9x1 32) (p : Fin 294912) (k : Fin 9) :
    Host.gather gather_S294912x192_S294912x9x1_S294912x9_n_1_0_0_1_2_11 x idx (ix2 p k)
      = x (ix2 p (⟨min (idx (ix3 p k (0 : Fin 1))).toInt.toNat 191, by omega⟩ : Fin 192)) := by
  unfold Host.gather
  refine congrArg x (funext fun a => Fin.ext ?_)
  show GatherDims.start _ (ix2 p k) idx a + GatherDims.batchCoord _ (ix2 p k) a + GatherDims.offCoord _ (ix2 p k) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    have hm : (0 : Fin S294912x192.rank)
        ∈ gather_S294912x192_S294912x9x1_S294912x9_n_1_0_0_1_2_11.operandBatchingDims := List.mem_singleton.mpr rfl
    unfold GatherDims.batchCoord
    exact (dif_pos hm).trans rfl
  | ⟨1, _⟩ =>
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl)),
      Nat.add_zero]
    have hm : (1 : Fin S294912x192.rank)
        ∈ gather_S294912x192_S294912x9x1_S294912x9_n_1_0_0_1_2_11.startIndexMap := List.mem_singleton.mpr rfl
    unfold GatherDims.start
    refine (dif_pos hm).trans ?_
    refine congrArg (fun z => min (idx z).toInt.toNat 191) (funext fun b => Fin.ext ?_)
    match b with
    | ⟨0, _⟩ => rfl
    | ⟨1, _⟩ => rfl
    | ⟨2, _⟩ => rfl

/-- A conjunction of one bit, from true, is that bit. -/
theorem all_one (g : Fin 1 → BitVec 1) : (Finset.univ : Finset (Fin 1)).fold IntOp.andi 1#1 g = g 0 := by
  rw [show (Finset.univ : Finset (Fin 1)) = {0} from rfl, Finset.fold_singleton]
  generalize g 0 = z
  revert z
  decide

/-- The conjunction over an axis of one element, from true, is that element. -/
theorem all_last (b : IVec S294912x9x1 1) (init : S_.Idx → BitVec 1) (hi : ∀ i, init i = 1#1) (p : Fin 294912) (k : Fin 9) :
    Host.reduce IntOp.andi b init reducesTo_S294912x9x1_S294912x9_d2 h_S_ (ix2 p k) = b (ix3 p k (0 : Fin 1)) := by
  have hr : S294912x9x1.Reduces [2] S294912x9 := by decide
  rw [Host.reduce_eq_fold_single _ _ _ _ hr, hi]
  refine (all_one (b ∘ hr.lift (ix2 p k))).trans (congrArg b (funext fun a => Fin.ext ?_))
  match a with
  | ⟨0, _⟩ => rfl
  | ⟨1, _⟩ => rfl
  | ⟨2, _⟩ => rfl

/-! ## The masked read -/

variable (x0 : S1x1x294912x192.Idx → Ideal FTy.f32) (x1 : S1x384x768x1.Idx → Ideal FTy.f32)

/-- Row `p` of the volume. -/
def row (p : Fin 294912) : Fin 192 → EReal := fun j => x0 (ix4 (0 : Fin 1) (0 : Fin 1) p j)

theorem row_read (p : Fin 294912) (j : Fin 192) : val_main_v25 (F := Ideal) x0 (ix2 p j) = row x0 p j := by
  rw [val_main_v25_apply]
  refine congrArg x0 (funext fun a => Fin.ext ?_)
  have hp : p.val < 294912 := p.isLt
  have hj : j.val < 192 := j.isLt
  match a with
  | ⟨0, _⟩ => rfl
  | ⟨1, _⟩ => rfl
  | ⟨2, _⟩ => show (p.val * 192 + j.val) / 192 % 294912 = p.val; omega
  | ⟨3, _⟩ => show (p.val * 192 + j.val) % 192 = j.val; omega

/-- The row read at an index inside the volume, clamped, is the cell. -/
theorem row_cell (p : Fin 294912) (i : BitVec 32) (h : 0 ≤ i.toInt ∧ i.toInt ≤ 191) :
    row x0 p (⟨min i.toInt.toNat 191, by omega⟩ : Fin 192) = cell (row x0 p) i.toInt :=
  ((cell_nat (row x0 p) i.toInt (min i.toInt.toNat 191) (by omega) (by omega))).symm

/-- The lower of the two reads. -/
theorem read_lower (p : Fin 294912) (k : Fin 9) :
    val_main_v33 (F := Ideal) x0 x1 (ix2 p k) = cell (row x0 p) (val_main_v22 (F := Ideal) x1 (ix2 p k)).toInt := by
  rw [val_main_v33_apply, val_main_v30_apply, val_main_v27_apply, val_main_v29_apply, val_main_v26_apply, val_main_v28_apply,
    val_main_c_8_apply, val_main_c_9_apply]
  generalize hi : val_main_v22 (F := Ideal) x1 (ix2 p k) = i
  rw [inside_iff]
  by_cases h : 0 ≤ i.toInt ∧ i.toInt ≤ 191
  · have h31 : val_main_v31 (F := Ideal) x1 (ix2 p k) = i := by
      rw [val_main_v31_apply, val_main_call1_v4_apply, val_main_call1_v2_apply, val_main_call1_v1_apply, hi]
      exact clip_inside i h
    have h4 : val_main_call2_v4 (F := Ideal) x1 (ix2 p k) = i := by
      rw [val_main_call2_v4_apply, val_main_call2_v1_apply, val_main_call2_v0_apply, h31, val_main_call2_c_apply, slt_zero i h.1]
      rfl
    have h5 : val_main_call2_v5 (F := Ideal) x1 (ix3 p k (0 : Fin 1)) = i := by
      rw [val_main_call2_v5_apply, ← h4]
      refine congrArg (val_main_call2_v4 (F := Ideal) x1) (funext fun a => Fin.ext ?_)
      have hk : k.val < 9 := k.isLt
      match a with
      | ⟨0, _⟩ => show ((p.val * 9 + k.val) * 1 + 0) / 9 = p.val; omega
      | ⟨1, _⟩ => show ((p.val * 9 + k.val) * 1 + 0) % 9 = k.val; omega
    have h12 : val_main_call2_v12 (F := Ideal) x1 (ix2 p k) = 1#1 := by
      unfold val_main_call2_v12
      rw [all_last _ (val_main_call2_c_3 (F := Ideal)) (fun _ => rfl), val_main_call2_v11_apply, val_main_call2_v7_apply, val_main_call2_v10_apply, h5,
        val_main_call2_v6_apply, val_main_call2_v9_apply, val_main_call2_v8_apply]
      exact (inside_iff i).trans (by rw [decide_eq_true h]; rfl)
    rw [decide_eq_true h, val_main_v32_apply, h12]
    show val_main_call2_v13 (F := Ideal) x0 x1 (ix2 p k) = _
    unfold val_main_call2_v13
    rw [gather_row, row_read]
    simp only [h5]
    exact row_cell x0 p i h
  · rw [decide_eq_false h]
    unfold cell
    rw [dif_neg h, ← EReal.coe_zero, ← lit_zero]
    show val_main_call3_v1 (F := Ideal) (ix2 p k) = _
    rw [val_main_call3_v1_apply]
    rfl

/-- The upper of the two reads. -/
theorem read_upper (p : Fin 294912) (k : Fin 9) :
    val_main_v42 (F := Ideal) x0 x1 (ix2 p k) = cell (row x0 p) (val_main_v24 (F := Ideal) x1 (ix2 p k)).toInt := by
  rw [val_main_v42_apply, val_main_v39_apply, val_main_v36_apply, val_main_v38_apply, val_main_v35_apply, val_main_v37_apply,
    val_main_c_13_apply, val_main_c_14_apply]
  generalize hi : val_main_v24 (F := Ideal) x1 (ix2 p k) = i
  rw [inside_iff]
  by_cases h : 0 ≤ i.toInt ∧ i.toInt ≤ 191
  · have h40 : val_main_v40 (F := Ideal) x1 (ix2 p k) = i := by
      rw [val_main_v40_apply, val_main_call4_v4_apply, val_main_call4_v2_apply, val_main_call4_v1_apply, hi]
      exact clip_inside i h
    have h4 : val_main_call5_v4 (F := Ideal) x1 (ix2 p k) = i := by
      rw [val_main_call5_v4_apply, val_main_call5_v1_apply, val_main_call5_v0_apply, h40, val_main_call5_c_apply, slt_zero i h.1]
      rfl
    have h5 : val_main_call5_v5 (F := Ideal) x1 (ix3 p k (0 : Fin 1)) = i := by
      rw [val_main_call5_v5_apply, ← h4]
      refine congrArg (val_main_call5_v4 (F := Ideal) x1) (funext fun a => Fin.ext ?_)
      have hk : k.val < 9 := k.isLt
      match a with
      | ⟨0, _⟩ => show ((p.val * 9 + k.val) * 1 + 0) / 9 = p.val; omega
      | ⟨1, _⟩ => show ((p.val * 9 + k.val) * 1 + 0) % 9 = k.val; omega
    have h12 : val_main_call5_v12 (F := Ideal) x1 (ix2 p k) = 1#1 := by
      unfold val_main_call5_v12
      rw [all_last _ (val_main_call5_c_3 (F := Ideal)) (fun _ => rfl), val_main_call5_v11_apply, val_main_call5_v7_apply, val_main_call5_v10_apply, h5,
        val_main_call5_v6_apply, val_main_call5_v9_apply, val_main_call5_v8_apply]
      exact (inside_iff i).trans (by rw [decide_eq_true h]; rfl)
    rw [decide_eq_true h, val_main_v41_apply, h12]
    show val_main_call5_v13 (F := Ideal) x0 x1 (ix2 p k) = _
    unfold val_main_call5_v13
    rw [gather_row, row_read]
    simp only [h5]
    exact row_cell x0 p i h
  · rw [decide_eq_false h]
    unfold cell
    rw [dif_neg h, ← EReal.coe_zero, ← lit_zero]
    show val_main_call6_v1 (F := Ideal) (ix2 p k) = _
    rw [val_main_call6_v1_apply]
    rfl

end Cert.ReferenceIdeal.Taps

end
-- ==== Proof.RefValue.lean ====
/- What the reference computes at an entry whose flow is a real in [0, 1): the weighted mean of the two cells next to the
   tap's position, in that pixel's row of the volume. -/
module

public import proofs.«01_k».proof.Proof.RefTake

@[expose] public section

set_option maxRecDepth 16384

noncomputable section

namespace Cert.ReferenceIdeal.Taps

open Cert.ReferenceIdeal Cert.ReferenceIdeal.Gen Cert.ReferenceIdeal.Read Idealize.ShloMosaic Idealize.ShloMosaic.ValueIdx
open Cert.Sampling

/-! ## The nine offsets -/

theorem first_end (i : S_.Idx) : val_main_call0_v0 (F := Ideal) i = ((-4 : ℝ) : EReal) := by
  rw [val_main_call0_v0_apply, val_main_c_apply]
  show ((((4294967292#32 : BitVec 32).toInt : ℝ)) : EReal) = _
  rw [show (4294967292#32 : BitVec 32).toInt = -4 from by decide]
  norm_num

theorem last_end (i : S_.Idx) : val_main_call0_v1 (F := Ideal) i = ((4 : ℝ) : EReal) := by
  rw [val_main_call0_v1_apply, val_main_c_0_apply]
  show ((((4#32 : BitVec 32).toInt : ℝ)) : EReal) = _
  rw [show (4#32 : BitVec 32).toInt = 4 from by decide]
  norm_num

/-- How far along the way from the first offset to the last. -/
theorem along (k : Fin 8) : val_main_call0_v6 (F := Ideal) (ix1 k) = ((k.val / 8 : ℝ) : EReal) := by
  rw [val_main_call0_v6_apply, val_main_call0_v5_apply, val_main_call0_cst_0_apply, Ideal.hostDivf_def, Ideal.ofBits_def, lit_eight]
  have e : val_main_call0_v4 (F := Ideal) (ix1 k) = ((k.val : ℝ) : EReal) := by
    show ((((BitVec.ofNat 32 k.val).toInt : ℤ) : ℝ) : EReal) = _
    have hk : (BitVec.ofNat 32 k.val).toInt = k.val := by revert k; decide
    rw [hk]; norm_num
  rw [e, div_real _ _ (by norm_num)]

/-- Offset `k`, one of the first eight. -/
theorem offset_low (k : Fin 8) : val_main_call0_v15 (F := Ideal) (ix1 k) = ((k.val - 4 : ℝ) : EReal) := by
  rw [val_main_call0_v15_apply, val_main_call0_v11_apply, val_main_call0_v14_apply, val_main_call0_v10_apply,
    val_main_call0_v13_apply, val_main_call0_v9_apply, val_main_call0_v8_apply, val_main_call0_cst_1_apply, along]
  have a : ∀ i, val_main_call0_v7 (F := Ideal) i = ((-4 : ℝ) : EReal) := fun i => first_end _
  have b : ∀ i, val_main_call0_v12 (F := Ideal) i = ((4 : ℝ) : EReal) := fun i => last_end _
  rw [a, b, Ideal.ofBits_def, lit_one, Ideal.addf_def, Ideal.mulf_def, Ideal.mulf_def, Ideal.subf_def, ← EReal.coe_sub,
    ← EReal.coe_mul, ← EReal.coe_mul, ← EReal.coe_add]
  congr 1
  ring

/-- Offset `k` of the nine. -/
theorem offset_real (k : Fin 9) : val_main_v0 (F := Ideal) (ix1 k) = ((k.val - 4 : ℝ) : EReal) := by
  unfold val_main_v0
  by_cases h : k.val < 8
  · rw [concatenate_pair_apply_left 0 _ _ concatenates_S8_S1_S9_d0 (ix1 k) rfl (ix1 (⟨k.val, h⟩ : Fin 8))
      (fun b => by match b with | ⟨0, _⟩ => rfl)]
    exact offset_low ⟨k.val, h⟩
  · have hk : k.val = 8 := by omega
    rw [concatenate_pair_apply_right 0 _ _ concatenates_S8_S1_S9_d0 (ix1 k) rfl rfl (ix1 (0 : Fin 1))
      (fun b hb => absurd (Fin.ext (by match b with | ⟨0, _⟩ => rfl)) hb) (by show 0 + 8 = k.val; omega)]
    rw [val_main_call0_v16_apply, last_end, hk]
    norm_num

/-! ## The position -/

/-- The whole part of a position is small. -/
theorem small (k : Fin 9) (f : ℝ) (h0 : 0 ≤ f) (h1 : f < 1) : -4 ≤ ⌊spot k.val f⌋ ∧ ⌊spot k.val f⌋ < 5 := by
  have hk : (k.val : ℝ) ≤ 8 := by exact_mod_cast Nat.le_of_lt_succ k.isLt
  have hk0 : (0 : ℝ) ≤ k.val := Nat.cast_nonneg _
  unfold spot
  exact ⟨Int.le_floor.mpr (by push_cast; linarith), Int.floor_lt.mpr (by push_cast; linarith)⟩

variable (x0 : S1x1x294912x192.Idx → Ideal FTy.f32) (x1 : S1x384x768x1.Idx → Ideal FTy.f32)

/-- The row of the pixel `h`, `w`. -/
abbrev pix (h : Fin 384) (w : Fin 768) : Fin 294912 := ⟨h.val * 768 + w.val, by omega⟩

variable (h : Fin 384) (w : Fin 768) (k : Fin 9) (f : ℝ) (hf : x1 (ix4 (0 : Fin 1) h w (0 : Fin 1)) = (f : EReal))
include hf

/-- The shifted flow. -/
theorem shifted : val_main_v5 (F := Ideal) x1 (ix2 (pix h w) k) = (f : EReal) + ((k.val - 4 : ℝ) : EReal) := by
  have hk : k.val < 9 := k.isLt
  have e : idx_main_v5 (ix2 (pix h w) k) = ix4 (0 : Fin 1) h w k := by
    refine funext fun a => Fin.ext ?_
    match a with
    | ⟨0, _⟩ => rfl
    | ⟨1, _⟩ => show ((h.val * 768 + w.val) * 9 + k.val) / 6912 % 384 = h.val; omega
    | ⟨2, _⟩ => show ((h.val * 768 + w.val) * 9 + k.val) / 9 % 768 = w.val; omega
    | ⟨3, _⟩ => show ((h.val * 768 + w.val) * 9 + k.val) % 9 = k.val; omega
  rw [val_main_v5_apply, e, val_main_v4_apply, Ideal.addf_def, val_main_v2_apply, val_main_v3_apply, val_main_v1_apply, ← hf,
    ← offset_real k]
  refine congr (congrArg HAdd.hAdd (congrArg x1 (funext fun a => Fin.ext ?_))) (congrArg (val_main_v0 (F := Ideal)) (funext fun a => Fin.ext ?_))
  · match a with
    | ⟨0, _⟩ => rfl
    | ⟨1, _⟩ => rfl
    | ⟨2, _⟩ => rfl
    | ⟨3, _⟩ => rfl
  · match a with
    | ⟨0, _⟩ => rfl

/-- The position. -/
theorem position : val_main_v17 (F := Ideal) x1 (ix2 (pix h w) k) = (spot k.val f : EReal) := by
  rw [val_main_v17_apply, val_main_v15_apply, val_main_v13_apply, val_main_v11_apply, val_main_v9_apply, val_main_v7_apply,
    shifted x1 h w k f hf, val_main_v6_apply, val_main_v8_apply, val_main_v10_apply, val_main_v12_apply, val_main_v14_apply,
    val_main_v16_apply, val_main_cst_apply, val_main_cst_1_apply, val_main_cst_2_apply, val_main_cst_3_apply,
    val_main_cst_4_apply, val_main_cst_5_apply]
  simp only [Ideal.ofBits_def, Ideal.mulf_def, Ideal.addf_def, Ideal.subf_def, Ideal.hostDivf_def]
  rw [lit_two, lit_192, lit_one, lit_half, lit_191]
  exact chain_real f _

theorem below : val_main_v18 (F := Ideal) x1 (ix2 (pix h w) k) = (((⌊spot k.val f⌋ : ℤ) : ℝ) : EReal) := by
  rw [val_main_v18_apply, position x1 h w k f hf]; rfl

theorem weight_upper : val_main_v19 (F := Ideal) x1 (ix2 (pix h w) k) = ((spot k.val f - ⌊spot k.val f⌋ : ℝ) : EReal) := by
  rw [val_main_v19_apply, position x1 h w k f hf, below x1 h w k f hf, Ideal.subf_def, ← EReal.coe_sub]

theorem weight_lower :
    val_main_v21 (F := Ideal) x1 (ix2 (pix h w) k) = ((1 - (spot k.val f - ⌊spot k.val f⌋) : ℝ) : EReal) := by
  rw [val_main_v21_apply, weight_upper x1 h w k f hf, val_main_v20_apply, val_main_cst_6_apply, Ideal.ofBits_def, lit_one,
    Ideal.subf_def, ← EReal.coe_sub]

theorem index_lower (h0 : 0 ≤ f) (h1 : f < 1) :
    (val_main_v22 (F := Ideal) x1 (ix2 (pix h w) k)) = BitVec.ofInt 32 ⌊spot k.val f⌋ := by
  have s := small k f h0 h1
  rw [val_main_v22_apply, below x1 h w k f hf]
  show Ideal.fptosi 32 _ = _
  unfold Ideal.fptosi
  rw [Ideal.toIntClamped_coe, Int.floor_intCast, Int.ceil_intCast, ite_self]
  congr 1
  norm_num
  omega

theorem index_upper (h0 : 0 ≤ f) (h1 : f < 1) :
    (val_main_v24 (F := Ideal) x1 (ix2 (pix h w) k)) = BitVec.ofInt 32 (⌊spot k.val f⌋ + 1) := by
  rw [val_main_v24_apply, index_lower x1 h w k f hf h0 h1, val_main_v23_apply, val_main_c_7_apply, BitVec.ofInt_add]
  rfl

/-! ## The value -/

/-- The reference at plane `k`, row `h`, column `w`. -/
theorem value_mix (h0 : 0 ≤ f) (h1 : f < 1) :
    val_main_v46 (F := Ideal) x0 x1 (ix4 (0 : Fin 1) k h w) = mix (spot k.val f) (cell (row x0 (pix h w))) := by
  have s := small k f h0 h1
  have hk : k.val < 9 := k.isLt
  have e : idx_main_v45 (idx_main_v46 (ix4 (0 : Fin 1) k h w)) = ix2 (pix h w) k := by
    refine funext fun a => Fin.ext ?_
    match a with
    | ⟨0, _⟩ => show (((0 * 384 + h.val) * 768 + w.val) * 9 + k.val) / 9 = h.val * 768 + w.val; omega
    | ⟨1, _⟩ => show (((0 * 384 + h.val) * 768 + w.val) * 9 + k.val) % 9 = k.val; omega
  have small_int : ∀ n : ℤ, -4 ≤ n → n < 6 → (BitVec.ofInt 32 n).toInt = n := fun n a b => by
    rw [BitVec.toInt_ofInt]
    exact Int.bmod_eq_of_le (by norm_num; omega) (by norm_num; omega)
  rw [val_main_v46_apply, val_main_v45_apply, e, val_main_v44_apply, val_main_v34_apply, val_main_v43_apply,
    weight_lower x1 h w k f hf, weight_upper x1 h w k f hf, read_lower, read_upper, index_lower x1 h w k f hf h0 h1,
    index_upper x1 h w k f hf h0 h1, small_int _ s.1 (by omega), small_int _ (by omega) (by omega)]
  rfl

end Cert.ReferenceIdeal.Taps

end
-- ==== Proof.FlowRange.lean ====
/- The precondition, read: where it holds, every entry of the flow is a real number at least 0 and below 1. -/
module

public import proofs.«01_k».proof.Pre_flow_in_unit_interval
public import proofs.«01_k».proof.Proof.Sampling

@[expose] public section

noncomputable section

namespace Cert.Pre_flow_in_unit_interval

open Idealize.ShloMosaic Cert.Sampling

/-- The predicate's one shape fact. -/
theorem shapes : Facts := ⟨by decide⟩

/-- An extended real at least 0 and below 1 is a real number. -/
theorem real_of_unit (x : EReal) (h0 : 0 ≤ x) (h1 : x < 1) : ∃ f : ℝ, x = (f : EReal) ∧ 0 ≤ f ∧ f < 1 := by
  induction x with
  | bot => exact absurd h0 (by simp)
  | top => exact absurd h1 (by simp)
  | coe f => exact ⟨f, rfl, by exact_mod_cast h0, by exact_mod_cast h1⟩

/-- Both bits of a conjunction of two tests that came out true. -/
theorem both_true (p q : Prop) [Decidable p] [Decidable q]
    (h : IntOp.andi (BitVec.ofBool (decide p)) (BitVec.ofBool (decide q)) = 1#1) : p ∧ q := by
  by_cases a : p <;> by_cases b : q <;> simp [a, b, IntOp.andi] at h ⊢

/-- Every entry of the flow. -/
theorem unit_of_pre [Facts] (a0 : FVec Ideal S1x1x294912x192 .f32) (a1 : FVec Ideal S1x384x768x1 .f32)
    (h : fn (F := Ideal) a0 a1 = fun _ => 1#1) (i : S1x384x768x1.Idx) : ∃ f : ℝ, a1 i = (f : EReal) ∧ 0 ≤ f ∧ f < 1 := by
  have e := congrFun h i
  have b : IntOp.andi (BitVec.ofBool (decide (Ideal.ofBits .f32 0x00000000#32 ≤ (a1 i : EReal))))
      (BitVec.ofBool (decide ((a1 i : EReal) < Ideal.ofBits .f32 0x3F800000#32))) = 1#1 := e
  obtain ⟨l, u⟩ := both_true _ _ b
  rw [lit_zero] at l
  rw [lit_one] at u
  exact real_of_unit (a1 i) (by exact_mod_cast l) (by exact_mod_cast u)

end Cert.Pre_flow_in_unit_interval

end
-- ==== Proof.lean ====
/- The proof of the seven claims: the frames, the idealization, and the equation between the kernel and the reference. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.KRun
public import proofs.«01_k».proof.Proof.Final
public import proofs.«01_k».proof.Proof.Equation
public import proofs.«01_k».proof.Proof.RefValue
public import proofs.«01_k».proof.Proof.FlowRange
public import Idealize.ShloMosaic.Lib.Quiescent

@[expose] public section

set_option maxRecDepth 16384

noncomputable section

namespace Cert.Proof

open Idealize.ShloMosaic Idealize.SL.Sem Idealize.ShloMosaic.ValueIdx

attribute [local instance] Cert.Pre_flow_in_unit_interval.shapes

/-- The kernel's result array is the reference's, where the flow lies in [0, 1). -/
theorem same_array (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (hm : Cert.Pre_KernelIdeal_flow_in_unit_interval m) :
    (Cert.ReferenceIdeal.Read.val_main_v46 (F := Ideal) (m (c.tc.loc Cert.KernelIdeal.main_arg0))
        (m (c.tc.loc Cert.KernelIdeal.main_arg1)) : Cert.KernelIdeal.S1x9x384x768.Idx → EReal)
      = Cert.KernelIdeal.Gen.W5 m ρ c (Proc.devRef .tc Cert.KernelIdeal.main_v10) := by
  funext i
  rw [eq_ix4 i]
  generalize (i 1 : Fin 9) = k, (i 2 : Fin 384) = h, (i 3 : Fin 768) = w
  rw [show (i 0 : Fin 1) = (0 : Fin 1) from Subsingleton.elim (α := Fin 1) _ _]
  obtain ⟨f, hf, h0, h1⟩ := Cert.Pre_flow_in_unit_interval.unit_of_pre _ _ (hm c) (ix4 (0 : Fin 1) h w (0 : Fin 1))
  refine (Cert.ReferenceIdeal.Taps.value_mix _ _ h w k f hf h0 h1).trans ?_
  refine Eq.trans ?_ (Cert.KernelIdeal.Taps.result_apply m ρ c k h w).symm
  refine Eq.trans ?_ (congrArg (fun x => Cert.KernelIdeal.Taps.tapAt k.val x _) hf.symm)
  exact (Cert.KernelIdeal.Taps.tapAt_mix k f h0 h1 _ _ (fun _ => rfl)).symm

/-- The reference ends with its arguments unchanged and every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m (c.tc.loc Cert.ReferenceIdeal.main_arg0)
        ∧ r.2.mem ((c.tc : Thread Cert.ReferenceIdeal.nD Cert.ReferenceIdeal.τ).loc Cert.ReferenceIdeal.main_arg1) = m (c.tc.loc Cert.ReferenceIdeal.main_arg1))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m ρ)

/-- The equation. -/
theorem equation : Cert.algebraic_KernelIdeal_ReferenceIdeal_pre_flow_in_unit_interval := by
  intro m g m' g' hm ha
  refine ⟨fun c => Cert.KernelIdeal.Gen.W5 m g c (Proc.devRef .tc Cert.KernelIdeal.main_v10), Cert.KernelIdeal.Taps.run m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v46_eq m' c).trans ?_)
  rw [(ha c).1, (ha c).2]
  exact same_array m g c hm

theorem claim : Cert.Claim :=
  ⟨Cert.Kernel.Gen.facts, Cert.KernelIdeal.Gen.facts, Cert.ReferenceIdeal.Gen.facts, Cert.Pre_flow_in_unit_interval.shapes,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, equation⟩

end Cert.Proof

end
